-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16384x3 : Shape := ⟨3, ![8, 16384, 3]⟩
abbrev S8 : Shape := ⟨1, ![8]⟩
abbrev S_ : Shape := ⟨0, ![]⟩
abbrev S8x16384 : Shape := ⟨2, ![8, 16384]⟩
abbrev S8x256 : Shape := ⟨2, ![8, 256]⟩
abbrev S1 : Shape := ⟨1, ![1]⟩
abbrev S8x1 : Shape := ⟨2, ![8, 1]⟩
abbrev S8x2 : Shape := ⟨2, ![8, 2]⟩
abbrev S8x3 : Shape := ⟨2, ![8, 3]⟩
abbrev S8x1x3 : Shape := ⟨3, ![8, 1, 3]⟩
abbrev S8x256x1 : Shape := ⟨3, ![8, 256, 1]⟩
abbrev S8x256x2 : Shape := ⟨3, ![8, 256, 2]⟩
abbrev S8x256x3 : Shape := ⟨3, ![8, 256, 3]⟩
abbrev S3 : Shape := ⟨1, ![3]⟩
abbrev S1x1x3 : Shape := ⟨3, ![1, 1, 3]⟩
abbrev S8x1x16384 : Shape := ⟨3, ![8, 1, 16384]⟩
abbrev S8x256x16384 : Shape := ⟨3, ![8, 256, 16384]⟩
abbrev S8x256x32 : Shape := ⟨3, ![8, 256, 32]⟩
abbrev S8x1x1 : Shape := ⟨3, ![8, 1, 1]⟩
abbrev S8x256x32x1 : Shape := ⟨4, ![8, 256, 32, 1]⟩
abbrev S8x256x32x2 : Shape := ⟨4, ![8, 256, 32, 2]⟩
abbrev S8x256x32x3 : Shape := ⟨4, ![8, 256, 32, 3]⟩
abbrev S8x256x1x3 : Shape := ⟨4, ![8, 256, 1, 3]⟩
abbrev S8x256x3x32 : Shape := ⟨4, ![8, 256, 3, 32]⟩
abbrev S8x256x96 : Shape := ⟨3, ![8, 256, 96]⟩

abbrev nBuf : Space → Nat
  | .hbm => 171
  | .vmem => 2
  | .smem => 0
  | _ => 0

abbrev hbmTy0_0 (i : Nat) : BufTy := match i % 128 with
  | 0 => ⟨S8x16384x3, .f32⟩
  | 1 => ⟨S8, .i32⟩
  | 2 => ⟨S_, .f32⟩
  | 3 => ⟨S8x16384, .f32⟩
  | 4 => ⟨S_, .i32⟩
  | 5 => ⟨S8, .i32⟩
  | 6 => ⟨S_, .i32⟩
  | 7 => ⟨S8x256, .i32⟩
  | 8 => ⟨S_, .i32⟩
  | 9 => ⟨S_, .i32⟩
  | 10 => ⟨S8x16384x3, .f32⟩
  | 11 => ⟨S_, .i32⟩
  | 12 => ⟨S_, .i32⟩
  | 13 => ⟨S8x256, .i32⟩
  | 14 => ⟨S8x16384, .f32⟩
  | 15 => ⟨S8, .i32⟩
  | 16 => ⟨S_, .i32⟩
  | 17 => ⟨S_, .i1⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S1, .i32⟩
  | 27 => ⟨S8x256, .i32⟩
  | 28 => ⟨S8, .i32⟩
  | 29 => ⟨S_, .i32⟩
  | 30 => ⟨S8, .i32⟩
  | 31 => ⟨S8, .i1⟩
  | 32 => ⟨S_, .i32⟩
  | 33 => ⟨S8, .i32⟩
  | 34 => ⟨S8, .i32⟩
  | 35 => ⟨S8, .i32⟩
  | 36 => ⟨S_, .i32⟩
  | 37 => ⟨S8, .i32⟩
  | 38 => ⟨S8, .i1⟩
  | 39 => ⟨S_, .i32⟩
  | 40 => ⟨S8, .i32⟩
  | 41 => ⟨S8, .i32⟩
  | 42 => ⟨S8, .i32⟩
  | 43 => ⟨S8x1, .i32⟩
  | 44 => ⟨S8x1, .i32⟩
  | 45 => ⟨S8x2, .i32⟩
  | 46 => ⟨S8x3, .f32⟩
  | 47 => ⟨S8x1x3, .f32⟩
  | 48 => ⟨S8x16384x3, .f32⟩
  | 49 => ⟨S8x16384x3, .f32⟩
  | 50 => ⟨S8x16384x3, .f32⟩
  | 51 => ⟨S_, .f32⟩
  | 52 => ⟨S8x16384, .f32⟩
  | 53 => ⟨S8x16384, .f32⟩
  | 54 => ⟨S8x16384, .i32⟩
  | 55 => ⟨S_, .f32⟩
  | 56 => ⟨S_, .i32⟩
  | 57 => ⟨S8, .f32⟩
  | 58 => ⟨S8, .i32⟩
  | 59 => ⟨S_, .i32⟩
  | 60 => ⟨S_, .i32⟩
  | 61 => ⟨S8x1, .i32⟩
  | 62 => ⟨S_, .i32⟩
  | 63 => ⟨S8x1, .i32⟩
  | 64 => ⟨S8x1, .i1⟩
  | 65 => ⟨S_, .i32⟩
  | 66 => ⟨S8x1, .i32⟩
  | 67 => ⟨S8x1, .i32⟩
  | 68 => ⟨S8x1, .i32⟩
  | 69 => ⟨S_, .i32⟩
  | 70 => ⟨S8x256, .i32⟩
  | 71 => ⟨S8x256, .i1⟩
  | 72 => ⟨S_, .i32⟩
  | 73 => ⟨S8x256, .i32⟩
  | 74 => ⟨S8x256, .i32⟩
  | 75 => ⟨S8x256, .i32⟩
  | 76 => ⟨S8x256, .i32⟩
  | 77 => ⟨S8x256x1, .i32⟩
  | 78 => ⟨S8x256x1, .i32⟩
  | 79 => ⟨S8x256x2, .i32⟩
  | 80 => ⟨S8x256x3, .f32⟩
  | 81 => ⟨S8x256x1, .f32⟩
  | 82 => ⟨S8x256, .f32⟩
  | 83 => ⟨S_, .f32⟩
  | 84 => ⟨S_, .f32⟩
  | 85 => ⟨S8x256x1, .f32⟩
  | 86 => ⟨S8x256, .f32⟩
  | 87 => ⟨S_, .f32⟩
  | 88 => ⟨S_, .f32⟩
  | 89 => ⟨S8x256x1, .f32⟩
  | 90 => ⟨S8x256, .f32⟩
  | 91 => ⟨S_, .f32⟩
  | 92 => ⟨S_, .f32⟩
  | 93 => ⟨S1, .f32⟩
  | 94 => ⟨S1, .f32⟩
  | 95 => ⟨S1, .f32⟩
  | 96 => ⟨S3, .f32⟩
  | 97 => ⟨S1x1x3, .f32⟩
  | 98 => ⟨S8x256x3, .f32⟩
  | 99 => ⟨S8x256x3, .f32⟩
  | 100 => ⟨S8x256x3, .f32⟩
  | 101 => ⟨S_, .f32⟩
  | 102 => ⟨S8x256, .f32⟩
  | 103 => ⟨S8x256, .i32⟩
  | 104 => ⟨S8x256, .f32⟩
  | 105 => ⟨S8x256, .i32⟩
  | 106 => ⟨S8x1, .i32⟩
  | 107 => ⟨S_, .i32⟩
  | 108 => ⟨S8x1, .i32⟩
  | 109 => ⟨S8x1, .i1⟩
  | 110 => ⟨S_, .i32⟩
  | 111 => ⟨S8x1, .i32⟩
  | 112 => ⟨S8x1, .i32⟩
  | 113 => ⟨S8x1, .i32⟩
  | 114 => ⟨S_, .i32⟩
  | 115 => ⟨S8x256, .i32⟩
  | 116 => ⟨S8x256, .i1⟩
  | 117 => ⟨S_, .i32⟩
  | 118 => ⟨S8x256, .i32⟩
  | 119 => ⟨S8x256, .i32⟩
  | 120 => ⟨S8x256, .i32⟩
  | 121 => ⟨S8x256, .i32⟩
  | 122 => ⟨S8x256x1, .i32⟩
  | 123 => ⟨S8x256x1, .i32⟩
  | 124 => ⟨S8x256x2, .i32⟩
  | 125 => ⟨S8x256x3, .f32⟩
  | 126 => ⟨S8x256x3, .f32⟩
  | 127 => ⟨S_, .f32⟩
  | _ => ⟨S8x16384x3, .f32⟩

abbrev hbmTy0_1 (i : Nat) : BufTy := match i % 128 with
  | 0 => ⟨S8x256, .f32⟩
  | 1 => ⟨S8x256x1, .f32⟩
  | 2 => ⟨S8x16384x3, .f32⟩
  | 3 => ⟨S_, .f32⟩
  | 4 => ⟨S8x16384, .f32⟩
  | 5 => ⟨S8x1x16384, .f32⟩
  | 6 => ⟨S8x256x16384, .f32⟩
  | 7 => ⟨S8x256x16384, .f32⟩
  | 8 => ⟨S8x256x16384, .f32⟩
  | 9 => ⟨S8x256x16384, .f32⟩
  | 10 => ⟨S_, .f32⟩
  | 11 => ⟨S8x256x16384, .f32⟩
  | 12 => ⟨S8x256x16384, .f32⟩
  | 13 => ⟨S8x256x16384, .f32⟩
  | 14 => ⟨S8x256x16384, .f32⟩
  | 15 => ⟨S8x256x32, .f32⟩
  | 16 => ⟨S8x256x32, .i32⟩
  | 17 => ⟨S8x1x1, .i32⟩
  | 18 => ⟨S_, .i32⟩
  | 19 => ⟨S8x1x1, .i32⟩
  | 20 => ⟨S8x1x1, .i1⟩
  | 21 => ⟨S_, .i32⟩
  | 22 => ⟨S8x1x1, .i32⟩
  | 23 => ⟨S8x1x1, .i32⟩
  | 24 => ⟨S8x1x1, .i32⟩
  | 25 => ⟨S_, .i32⟩
  | 26 => ⟨S8x256x32, .i32⟩
  | 27 => ⟨S8x256x32, .i1⟩
  | 28 => ⟨S_, .i32⟩
  | 29 => ⟨S8x256x32, .i32⟩
  | 30 => ⟨S8x256x32, .i32⟩
  | 31 => ⟨S8x256x32, .i32⟩
  | 32 => ⟨S8x256x32, .i32⟩
  | 33 => ⟨S8x256x32x1, .i32⟩
  | 34 => ⟨S8x256x32x1, .i32⟩
  | 35 => ⟨S8x256x32x2, .i32⟩
  | 36 => ⟨S8x256x32x3, .f32⟩
  | 37 => ⟨S8x256x1x3, .f32⟩
  | 38 => ⟨S8x256x32x3, .f32⟩
  | 39 => ⟨S8x256x32x3, .f32⟩
  | 40 => ⟨S8x256x3x32, .f32⟩
  | 41 => ⟨S8x256x96, .f32⟩
  | 42 => ⟨S8x256x96, .f32⟩
  | _ => ⟨S8x16384x3, .f32⟩

abbrev hbmTy (i : Nat) : BufTy := match i / 128 with
  | 0 => hbmTy0_0 i
  | 1 => hbmTy0_1 i
  | _ => ⟨S8x16384x3, .f32⟩

abbrev bufTy : (tb : Table) → Fin (tcTables nBuf tb) → BufTy
  | .hbm, ⟨i, _⟩ => hbmTy i
  | .local _ .vmem, ⟨0, _⟩ => ⟨S8x256x96, .f32⟩
  | .local _ .vmem, ⟨1, _⟩ => ⟨S8x256x96, .f32⟩
  | _, _ => ⟨S8x16384x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_c_2 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_while0c_c_27 : Ref sig .tc := ⟨.hbm, 16, rfl⟩
abbrev main_while0c_v92 : Ref sig .tc := ⟨.hbm, 17, rfl⟩
abbrev main_while0b_c_27 : Ref sig .tc := ⟨.hbm, 18, rfl⟩
abbrev main_while0b_v92 : Ref sig .tc := ⟨.hbm, 19, rfl⟩
abbrev main_while0b_c_28 : Ref sig .tc := ⟨.hbm, 20, rfl⟩
abbrev main_while0b_v93 : Ref sig .tc := ⟨.hbm, 21, rfl⟩
abbrev main_while0b_c_29 : Ref sig .tc := ⟨.hbm, 22, rfl⟩
abbrev main_while0b_v94 : Ref sig .tc := ⟨.hbm, 23, rfl⟩
abbrev main_while0b_v95 : Ref sig .tc := ⟨.hbm, 24, rfl⟩
abbrev main_while0b_v96 : Ref sig .tc := ⟨.hbm, 25, rfl⟩
abbrev main_while0b_v97 : Ref sig .tc := ⟨.hbm, 26, rfl⟩
abbrev main_while0b_v98 : Ref sig .tc := ⟨.hbm, 27, rfl⟩
abbrev main_while0b_v99 : Ref sig .tc := ⟨.hbm, 28, rfl⟩
abbrev main_while0b_c_30 : Ref sig .tc := ⟨.hbm, 29, rfl⟩
abbrev main_while0b_v100 : Ref sig .tc := ⟨.hbm, 30, rfl⟩
abbrev main_while0b_v101 : Ref sig .tc := ⟨.hbm, 31, rfl⟩
abbrev main_while0b_c_31 : Ref sig .tc := ⟨.hbm, 32, rfl⟩
abbrev main_while0b_v102 : Ref sig .tc := ⟨.hbm, 33, rfl⟩
abbrev main_while0b_v103 : Ref sig .tc := ⟨.hbm, 34, rfl⟩
abbrev main_while0b_v104 : Ref sig .tc := ⟨.hbm, 35, rfl⟩
abbrev main_while0b_c_32 : Ref sig .tc := ⟨.hbm, 36, rfl⟩
abbrev main_while0b_v105 : Ref sig .tc := ⟨.hbm, 37, rfl⟩
abbrev main_while0b_v106 : Ref sig .tc := ⟨.hbm, 38, rfl⟩
abbrev main_while0b_c_33 : Ref sig .tc := ⟨.hbm, 39, rfl⟩
abbrev main_while0b_v107 : Ref sig .tc := ⟨.hbm, 40, rfl⟩
abbrev main_while0b_v108 : Ref sig .tc := ⟨.hbm, 41, rfl⟩
abbrev main_while0b_v109 : Ref sig .tc := ⟨.hbm, 42, rfl⟩
abbrev main_while0b_v110 : Ref sig .tc := ⟨.hbm, 43, rfl⟩
abbrev main_while0b_v111 : Ref sig .tc := ⟨.hbm, 44, rfl⟩
abbrev main_while0b_v112 : Ref sig .tc := ⟨.hbm, 45, rfl⟩
abbrev main_while0b_v113 : Ref sig .tc := ⟨.hbm, 46, rfl⟩
abbrev main_while0b_v114 : Ref sig .tc := ⟨.hbm, 47, rfl⟩
abbrev main_while0b_v115 : Ref sig .tc := ⟨.hbm, 48, rfl⟩
abbrev main_while0b_v116 : Ref sig .tc := ⟨.hbm, 49, rfl⟩
abbrev main_while0b_v117 : Ref sig .tc := ⟨.hbm, 50, rfl⟩
abbrev main_while0b_cst_34 : Ref sig .tc := ⟨.hbm, 51, rfl⟩
abbrev main_while0b_v118 : Ref sig .tc := ⟨.hbm, 52, rfl⟩
abbrev main_while0b_v119 : Ref sig .tc := ⟨.hbm, 53, rfl⟩
abbrev main_while0b_call0_v0 : Ref sig .tc := ⟨.hbm, 54, rfl⟩
abbrev main_while0b_call0_cst : Ref sig .tc := ⟨.hbm, 55, rfl⟩
abbrev main_while0b_call0_c : Ref sig .tc := ⟨.hbm, 56, rfl⟩
abbrev main_while0b_call0_v1_0 : Ref sig .tc := ⟨.hbm, 57, rfl⟩
abbrev main_while0b_v120 : Ref sig .tc := ⟨.hbm, 58, rfl⟩
abbrev main_while0b_c_35 : Ref sig .tc := ⟨.hbm, 59, rfl⟩
abbrev main_while0b_v121 : Ref sig .tc := ⟨.hbm, 60, rfl⟩
abbrev main_v5 : Ref sig .tc := ⟨.hbm, 61, rfl⟩
abbrev main_c_3 : Ref sig .tc := ⟨.hbm, 62, rfl⟩
abbrev main_v6 : Ref sig .tc := ⟨.hbm, 63, rfl⟩
abbrev main_v7 : Ref sig .tc := ⟨.hbm, 64, rfl⟩
abbrev main_c_4 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_c_5 : Ref sig .tc := ⟨.hbm, 69, rfl⟩
abbrev main_v11 : Ref sig .tc := ⟨.hbm, 70, rfl⟩
abbrev main_v12 : Ref sig .tc := ⟨.hbm, 71, rfl⟩
abbrev main_c_6 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_cst_7 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_cst_8 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_cst_9 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_cst_10 : Ref sig .tc := ⟨.hbm, 101, rfl⟩
abbrev main_v38 : Ref sig .tc := ⟨.hbm, 102, rfl⟩
abbrev main_call1_v0 : Ref sig .tc := ⟨.hbm, 103, rfl⟩
abbrev main_call1_v1_0 : Ref sig .tc := ⟨.hbm, 104, rfl⟩
abbrev main_v39 : Ref sig .tc := ⟨.hbm, 105, rfl⟩
abbrev main_v40 : Ref sig .tc := ⟨.hbm, 106, rfl⟩
abbrev main_c_11 : Ref sig .tc := ⟨.hbm, 107, rfl⟩
abbrev main_v41 : Ref sig .tc := ⟨.hbm, 108, rfl⟩
abbrev main_v42 : Ref sig .tc := ⟨.hbm, 109, rfl⟩
abbrev main_c_12 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_c_13 : Ref sig .tc := ⟨.hbm, 114, rfl⟩
abbrev main_v46 : Ref sig .tc := ⟨.hbm, 115, rfl⟩
abbrev main_v47 : Ref sig .tc := ⟨.hbm, 116, rfl⟩
abbrev main_c_14 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_cst_15 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_16 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_17 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_values : Ref sig .tc := ⟨.hbm, 143, rfl⟩
abbrev main_indices : Ref sig .tc := ⟨.hbm, 144, rfl⟩
abbrev main_v70 : Ref sig .tc := ⟨.hbm, 145, rfl⟩
abbrev main_c_18 : Ref sig .tc := ⟨.hbm, 146, rfl⟩
abbrev main_v71 : Ref sig .tc := ⟨.hbm, 147, rfl⟩
abbrev main_v72 : Ref sig .tc := ⟨.hbm, 148, rfl⟩
abbrev main_c_19 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_c_20 : Ref sig .tc := ⟨.hbm, 153, rfl⟩
abbrev main_v76 : Ref sig .tc := ⟨.hbm, 154, rfl⟩
abbrev main_v77 : Ref sig .tc := ⟨.hbm, 155, rfl⟩
abbrev main_c_21 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev main_while0_count : Scf.Loop 32 := ⟨0#32, 256#32, 1#32⟩

abbrev grid0 : Pipeline.Grid := .none

abbrev stage0_0 : Fin 1 → Memref sig .tc .vmem S8x256x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x16384x3 : Shape := ⟨3, ![8, 16384, 3]⟩
abbrev S_ : Shape := ⟨0, ![]⟩
abbrev S8x16384 : Shape := ⟨2, ![8, 16384]⟩
abbrev S8 : Shape := ⟨1, ![8]⟩
abbrev S256x8 : Shape := ⟨2, ![256, 8]⟩
abbrev S8x1 : Shape := ⟨2, ![8, 1]⟩
abbrev S8x2 : Shape := ⟨2, ![8, 2]⟩
abbrev S8x3 : Shape := ⟨2, ![8, 3]⟩
abbrev S8x1x3 : Shape := ⟨3, ![8, 1, 3]⟩
abbrev S1x8 : Shape := ⟨2, ![1, 8]⟩
abbrev S8x256 : Shape := ⟨2, ![8, 256]⟩
abbrev S8x256x1 : Shape := ⟨3, ![8, 256, 1]⟩
abbrev S8x256x2 : Shape := ⟨3, ![8, 256, 2]⟩
abbrev S8x256x3 : Shape := ⟨3, ![8, 256, 3]⟩
abbrev S3 : Shape := ⟨1, ![3]⟩
abbrev S1x1x3 : Shape := ⟨3, ![1, 1, 3]⟩
abbrev S8x1x16384 : Shape := ⟨3, ![8, 1, 16384]⟩
abbrev S8x256x16384 : Shape := ⟨3, ![8, 256, 16384]⟩
abbrev S8x256x32 : Shape := ⟨3, ![8, 256, 32]⟩
abbrev S8x1x1 : Shape := ⟨3, ![8, 1, 1]⟩
abbrev S8x256x32x1 : Shape := ⟨4, ![8, 256, 32, 1]⟩
abbrev S8x256x32x2 : Shape := ⟨4, ![8, 256, 32, 2]⟩
abbrev S8x256x32x3 : Shape := ⟨4, ![8, 256, 32, 3]⟩
abbrev S8x256x1x3 : Shape := ⟨4, ![8, 256, 1, 3]⟩
abbrev S8x256x3x32 : Shape := ⟨4, ![8, 256, 3, 32]⟩
abbrev S8x256x96 : Shape := ⟨3, ![8, 256, 96]⟩

abbrev nBuf : Space → Nat
  | .hbm => 100
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S_, .f32⟩
  | .hbm, ⟨2, _⟩ => ⟨S8x16384, .f32⟩
  | .hbm, ⟨3, _⟩ => ⟨S_, .i32⟩
  | .hbm, ⟨4, _⟩ => ⟨S8, .i32⟩
  | .hbm, ⟨5, _⟩ => ⟨S_, .i32⟩
  | .hbm, ⟨6, _⟩ => ⟨S256x8, .i32⟩
  | .hbm, ⟨7, _⟩ => ⟨S_, .i32⟩
  | .hbm, ⟨8, _⟩ => ⟨S8x16384x3, .f32⟩
  | .hbm, ⟨9, _⟩ => ⟨S_, .i32⟩
  | .hbm, ⟨10, _⟩ => ⟨S8x16384, .f32⟩
  | .hbm, ⟨11, _⟩ => ⟨S8, .i32⟩
  | .hbm, ⟨12, _⟩ => ⟨S256x8, .i32⟩
  | .hbm, ⟨13, _⟩ => ⟨S_, .i32⟩
  | .hbm, ⟨14, _⟩ => ⟨S_, .i1⟩
  | .hbm, ⟨15, _⟩ => ⟨S8, .i32⟩
  | .hbm, ⟨16, _⟩ => ⟨S8x1, .i32⟩
  | .hbm, ⟨17, _⟩ => ⟨S8x1, .i32⟩
  | .hbm, ⟨18, _⟩ => ⟨S8x2, .i32⟩
  | .hbm, ⟨19, _⟩ => ⟨S8x3, .f32⟩
  | .hbm, ⟨20, _⟩ => ⟨S8x1x3, .f32⟩
  | .hbm, ⟨21, _⟩ => ⟨S8x16384x3, .f32⟩
  | .hbm, ⟨22, _⟩ => ⟨S8x16384x3, .f32⟩
  | .hbm, ⟨23, _⟩ => ⟨S8x16384x3, .f32⟩
  | .hbm, ⟨24, _⟩ => ⟨S_, .f32⟩
  | .hbm, ⟨25, _⟩ => ⟨S8x16384, .f32⟩
  | .hbm, ⟨26, _⟩ => ⟨S8x16384, .f32⟩
  | .hbm, ⟨27, _⟩ => ⟨S_, .f32⟩
  | .hbm, ⟨28, _⟩ => ⟨S8, .f32⟩
  | .hbm, ⟨29, _⟩ => ⟨S8x1, .f32⟩
  | .hbm, ⟨30, _⟩ => ⟨S8x16384, .f32⟩
  | .hbm, ⟨31, _⟩ => ⟨S8x16384, .i1⟩
  | .hbm, ⟨32, _⟩ => ⟨S8x16384, .i32⟩
  | .hbm, ⟨33, _⟩ => ⟨S_, .i32⟩
  | .hbm, ⟨34, _⟩ => ⟨S_, .i32⟩
  | .hbm, ⟨35, _⟩ => ⟨S8x16384, .i32⟩
  | .hbm, ⟨36, _⟩ => ⟨S8x16384, .i32⟩
  | .hbm, ⟨37, _⟩ => ⟨S_, .i32⟩
  | .hbm, ⟨38, _⟩ => ⟨S8, .i32⟩
  | .hbm, ⟨39, _⟩ => ⟨S1x8, .i32⟩
  | .hbm, ⟨40, _⟩ => ⟨S_, .i32⟩
  | .hbm, ⟨41, _⟩ => ⟨S256x8, .i32⟩
  | .hbm, ⟨42, _⟩ => ⟨S_, .i32⟩
  | .hbm, ⟨43, _⟩ => ⟨S_, .i32⟩
  | .hbm, ⟨44, _⟩ => ⟨S8x256, .i32⟩
  | .hbm, ⟨45, _⟩ => ⟨S8, .i32⟩
  | .hbm, ⟨46, _⟩ => ⟨S8x1, .i32⟩
  | .hbm, ⟨47, _⟩ => ⟨S8x256, .i32⟩
  | .hbm, ⟨48, _⟩ => ⟨S8x256x1, .i32⟩
  | .hbm, ⟨49, _⟩ => ⟨S8x256x1, .i32⟩
  | .hbm, ⟨50, _⟩ => ⟨S8x256x2, .i32⟩
  | .hbm, ⟨51, _⟩ => ⟨S8x256x3, .f32⟩
  | .hbm, ⟨52, _⟩ => ⟨S_, .f32⟩
  | .hbm, ⟨53, _⟩ => ⟨S3, .f32⟩
  | .hbm, ⟨54, _⟩ => ⟨S1x1x3, .f32⟩
  | .hbm, ⟨55, _⟩ => ⟨S8x256x3, .f32⟩
  | .hbm, ⟨56, _⟩ => ⟨S8x256x3, .f32⟩
  | .hbm, ⟨57, _⟩ => ⟨S8x256x3, .f32⟩
  | .hbm, ⟨58, _⟩ => ⟨S_, .f32⟩
  | .hbm, ⟨59, _⟩ => ⟨S8x256, .f32⟩
  | .hbm, ⟨60, _⟩ => ⟨S8x256, .i32⟩
  | .hbm, ⟨61, _⟩ => ⟨S8x256, .f32⟩
  | .hbm, ⟨62, _⟩ => ⟨S8x256, .i32⟩
  | .hbm, ⟨63, _⟩ => ⟨S8x1, .i32⟩
  | .hbm, ⟨64, _⟩ => ⟨S8x256, .i32⟩
  | .hbm, ⟨65, _⟩ => ⟨S8x256x1, .i32⟩
  | .hbm, ⟨66, _⟩ => ⟨S8x256x1, .i32⟩
  | .hbm, ⟨67, _⟩ => ⟨S8x256x2, .i32⟩
  | .hbm, ⟨68, _⟩ => ⟨S8x256x3, .f32⟩
  | .hbm, ⟨69, _⟩ => ⟨S8x256x3, .f32⟩
  | .hbm, ⟨70, _⟩ => ⟨S_, .f32⟩
  | .hbm, ⟨71, _⟩ => ⟨S8x256, .f32⟩
  | .hbm, ⟨72, _⟩ => ⟨S8x256x1, .f32⟩
  | .hbm, ⟨73, _⟩ => ⟨S8x16384x3, .f32⟩
  | .hbm, ⟨74, _⟩ => ⟨S_, .f32⟩
  | .hbm, ⟨75, _⟩ => ⟨S8x16384, .f32⟩
  | .hbm, ⟨76, _⟩ => ⟨S8x1x16384, .f32⟩
  | .hbm, ⟨77, _⟩ => ⟨S8x256x16384, .f32⟩
  | .hbm, ⟨78, _⟩ => ⟨S8x256x16384, .f32⟩
  | .hbm, ⟨79, _⟩ => ⟨S8x256x16384, .f32⟩
  | .hbm, ⟨80, _⟩ => ⟨S8x256x16384, .f32⟩
  | .hbm, ⟨81, _⟩ => ⟨S_, .f32⟩
  | .hbm, ⟨82, _⟩ => ⟨S8x256x16384, .f32⟩
  | .hbm, ⟨83, _⟩ => ⟨S8x256x16384, .f32⟩
  | .hbm, ⟨84, _⟩ => ⟨S8x256x16384, .f32⟩
  | .hbm, ⟨85, _⟩ => ⟨S8x256x16384, .i32⟩
  | .hbm, ⟨86, _⟩ => ⟨S8x256x16384, .f32⟩
  | .hbm, ⟨87, _⟩ => ⟨S8x256x16384, .i32⟩
  | .hbm, ⟨88, _⟩ => ⟨S8x256x32, .i32⟩
  | .hbm, ⟨89, _⟩ => ⟨S8x1x1, .i32⟩
  | .hbm, ⟨90, _⟩ => ⟨S8x256x32, .i32⟩
  | .hbm, ⟨91, _⟩ => ⟨S8x256x32x1, .i32⟩
  | .hbm, ⟨92, _⟩ => ⟨S8x256x32x1, .i32⟩
  | .hbm, ⟨93, _⟩ => ⟨S8x256x32x2, .i32⟩
  | .hbm, ⟨94, _⟩ => ⟨S8x256x32x3, .f32⟩
  | .hbm, ⟨95, _⟩ => ⟨S8x256x1x3, .f32⟩
  | .hbm, ⟨96, _⟩ => ⟨S8x256x32x3, .f32⟩
  | .hbm, ⟨97, _⟩ => ⟨S8x256x32x3, .f32⟩
  | .hbm, ⟨98, _⟩ => ⟨S8x256x3x32, .f32⟩
  | .hbm, ⟨99, _⟩ => ⟨S8x256x96, .f32⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_11 : Ref sig .tc := ⟨.hbm, 13, rfl⟩
abbrev main_while0c_v51 : Ref sig .tc := ⟨.hbm, 14, rfl⟩
abbrev main_while0b_v51 : Ref sig .tc := ⟨.hbm, 15, rfl⟩
abbrev main_while0b_v52 : Ref sig .tc := ⟨.hbm, 16, rfl⟩
abbrev main_while0b_v53 : Ref sig .tc := ⟨.hbm, 17, rfl⟩
abbrev main_while0b_v54 : Ref sig .tc := ⟨.hbm, 18, rfl⟩
abbrev main_while0b_v55 : Ref sig .tc := ⟨.hbm, 19, rfl⟩
abbrev main_while0b_v56 : Ref sig .tc := ⟨.hbm, 20, rfl⟩
abbrev main_while0b_v57 : Ref sig .tc := ⟨.hbm, 21, rfl⟩
abbrev main_while0b_v58 : Ref sig .tc := ⟨.hbm, 22, rfl⟩
abbrev main_while0b_v59 : Ref sig .tc := ⟨.hbm, 23, rfl⟩
abbrev main_while0b_cst_11 : Ref sig .tc := ⟨.hbm, 24, rfl⟩
abbrev main_while0b_v60 : Ref sig .tc := ⟨.hbm, 25, rfl⟩
abbrev main_while0b_v61 : Ref sig .tc := ⟨.hbm, 26, rfl⟩
abbrev main_while0b_cst_12 : Ref sig .tc := ⟨.hbm, 27, rfl⟩
abbrev main_while0b_v62 : Ref sig .tc := ⟨.hbm, 28, rfl⟩
abbrev main_while0b_v63 : Ref sig .tc := ⟨.hbm, 29, rfl⟩
abbrev main_while0b_v64 : Ref sig .tc := ⟨.hbm, 30, rfl⟩
abbrev main_while0b_v65 : Ref sig .tc := ⟨.hbm, 31, rfl⟩
abbrev main_while0b_v66 : Ref sig .tc := ⟨.hbm, 32, rfl⟩
abbrev main_while0b_c_13 : Ref sig .tc := ⟨.hbm, 33, rfl⟩
abbrev main_while0b_call0_v0 : Ref sig .tc := ⟨.hbm, 34, rfl⟩
abbrev main_while0b_call0_v1 : Ref sig .tc := ⟨.hbm, 35, rfl⟩
abbrev main_while0b_v67 : Ref sig .tc := ⟨.hbm, 36, rfl⟩
abbrev main_while0b_c_14 : Ref sig .tc := ⟨.hbm, 37, rfl⟩
abbrev main_while0b_v68 : Ref sig .tc := ⟨.hbm, 38, rfl⟩
abbrev main_while0b_call1_v0 : Ref sig .tc := ⟨.hbm, 39, rfl⟩
abbrev main_while0b_call1_c : Ref sig .tc := ⟨.hbm, 40, rfl⟩
abbrev main_while0b_v69 : Ref sig .tc := ⟨.hbm, 41, rfl⟩
abbrev main_while0b_c_15 : Ref sig .tc := ⟨.hbm, 42, rfl⟩
abbrev main_while0b_v70 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst_2 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_3 : Ref sig .tc := ⟨.hbm, 58, rfl⟩
abbrev main_v17 : Ref sig .tc := ⟨.hbm, 59, rfl⟩
abbrev main_call2_v0 : Ref sig .tc := ⟨.hbm, 60, rfl⟩
abbrev main_call2_v1_0 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_4 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_5 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_6 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_call3_v0 : Ref sig .tc := ⟨.hbm, 85, rfl⟩
abbrev main_call3_v1_0 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩

abbrev nD : Nat := 1
abbrev τ : Topo := Topo.v7x

variable {F : FTy → Type} [FloatOps F]

abbrev main_while0_count : Scf.Loop 32 := ⟨0#32, 256#32, 1#32⟩
-- ==== Proof.KernelIdealRegion.lean ====
/-
  THE COPY REGION of `KernelIdeal`: the one `pallas_call`, a kernel with no grid and two whole-array windows, which loads
  its operand and stores it. What its body leaves, and the region as one segment of the program's run.
-/
module

public import proofs.«01_k».proof.Proof.Gen.KernelIdeal.Launch
public import Idealize.ShloMosaic.Lib.Pipeline.RegionsLoop
public import Idealize.ShloMosaic.Lib.StableHlo.RunLoop
public import Idealize.ShloMosaic.Lib.Tactic

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters that transfers take their tokens from. -/
abbrev UU : Type := UR sig nD τ × Counters

local notation "𝕄" => MT nD τ sig Unit (Elt F) ℕ UU ℕ

/-- A memref's buffer on a core: its contents, and it held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev 𝒱₀ : Variants := Variants.none

/-- No core owes another anything, so no cell has a level. -/
abbrev L : GSem nD τ sig → Finset Unit := fun _ => ∅
abbrev lv : GSem nD τ sig → Unit → ℕ := fun _ _ => 0

/-- No window's table is prefetched, so nothing is asked of one. -/
abbrev adm : (p : Fin 1) → (pcfgs (F := F) p).Adm := fun p => (cfgs p).toPCfg_adm

/-- What the body leaves in the result's staging buffer, with the proof that, from both staging buffers held whole, it runs
    to its return and hands back the operand's as it was and the result's at that. -/
noncomputable def bodyRun (c : Dev nD) (M0 : Memref sig .tc .vmem S8x256x96 .f32) (h0 : M0.IsWhole) (M1 : Memref sig .tc .vmem S8x256x96 .f32) (h1 : M1.IsWhole)
    (f0 : Bf (F := F) c M0) :
    { W : Bf (F := F) c M1 // ∀ (f1 : Bf (F := F) c M1) (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc0__copy_body M0 h0 M1 h1) Q } := by
  refine ⟨?_, fun f1 E Q => ?run⟩
  case run =>
    iintro ⟨H0, H1, Hk⟩
    sl_exec!
    sl_step
    iapply Hk
    isplitl [H0]; · iexact H0
    iexact H1

variable (V : (c : Dev nD) → (b : Ref sig .tc) → Buf (Elt F) ((c : Thread nD τ).loc b))

/-- The operand's block as it is fetched. -/
abbrev stg (c : Dev nD) : (cfg0.win 0).block.Idx → Elt F (cfg0.win 0).elt :=
  ((cfg0.win 0).blk t0_0).view.read (Elt F) (V c main_v90)

/-- The body's run from it. -/
abbrev K (c : Dev nD) := bodyRun (F := F) c (stage0_0 0) (hstage0_0 0) (stage0_1 0) (hstage0_1 0) (stg V c)

/-- What the region holds between its ends: the scoped buffers that are not staging buffers. -/
abbrev Φc (c : Dev nD) : sProp 𝕄 := Pipeline.scopedRest (Ix := Unit) (Name := ℕ) (U := UU) (Lvl := ℕ) (Val := Elt F) spec0 c

/-- The region's data, entered with the buffers at `V`. -/
def dat (c : Dev nD) : Dat τ (Elt F) Unit ℕ UU ℕ cfg0 c where
  A w := V c (Pipeline.arrRef spec0 w)
  after w _ := match w with
    | ⟨0, _⟩ => stg V c
    | ⟨1, _⟩ => (K V c).1
  Φ _ := Φc c
  q _ := fullShare
  owed _ := 0

/-- The same, as a family over the program's one pipeline. -/
def pdats : (p : Fin 1) → (c : Dev nD) → Dat τ (Elt F) Unit ℕ UU ℕ (Pipeline.pin (pcfgs (F := F)) adm p) c
  | ⟨0, _⟩ => fun c => dat V c

/-- The operand's staging buffer holds the fetched block when the body runs. -/
theorem before_in (c : Dev nD) (d : (cfg0.win 0).block.Idx → Elt F (cfg0.win 0).elt) : (dat V c).before 0 t0_0 d = stg V c := by
  unfold Dat.before; rw [if_pos (by decide)]; rfl

/-- The body does, at the region's one point, what its data say. -/
theorem body_obligation (c : Dev nD) : BodyObligation (dat V c) (defs₀ (F := F)) 𝒱₀ () Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt () t0_0.succ = (dat V c).owesAt () t0_0.castSucc from rfl]
  iintro ⟨HΦ, Howes, ⟨%d0, %f0, %hf0, H0⟩, ⟨%d1, %f1, -, H1⟩⟩
  rw [before_in] at hf0
  subst hf0
  iapply ((K V c).2 f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-- The result's array when the region has written it back. -/
def copied (c : Dev nD) : Buf (Elt F) ((c : Thread nD τ).loc main_v91) := (dat V c).arrAt 1 cfg0.N

variable (Vp : (c : Dev nD) → (b : Ref sig .tc) → Buf (Elt F) ((c : Thread nD τ).loc b))

set_option backward.isDefEq.respectTransparency.types false in
/-- THE REGION as a segment: entered with every unscoped buffer at `V`, left with the result's array written back and every
    other buffer as it was; `R` rides along. -/
def reg (R : Dev nD → sProp 𝕄) (hVp_out : ∀ c, Vp c main_v91 = copied V c)
    (hVp_ne : ∀ c (b : Ref sig .tc), b ≠ main_v91 → Vp c b = V c b) : Pipeline.RegionSeg (pcfgs (F := F)) adm (pdats V) () defs₀ 𝒱₀ L lv 0 where
  win := launch0.win.to₀
  block_pos := launch0.block_pos
  stage_whole := launch0.stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_v90 (by decide)).symm
        · exact (hVp_out c).symm)
      (fun b hb => hVp_ne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Run

end
-- ==== Proof.KernelIdealRun.lean ====
/-
  THE RUN of `KernelIdeal`: a stretch of host operations, a counted host loop of 256 trips, three more stretches, and the
  copy region, as five kinds of segment of the loop kit. `run` says where every buffer ends; `frame` that the argument and
  the semaphore counters end as they began.
-/
module

public import proofs.«01_k».proof.Proof.KernelIdealRegion
public import Idealize.ShloMosaic.Lib.Scf.ExitTest
public import Idealize.ShloMosaic.Lib.Scf.Counter
public import Idealize.ShloMosaic.Lib.Quiescent
public import Idealize.ShloMosaic.Lib.StableHlo.RunRead

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket ucRefs sub_ucRefs)

variable {F : FTy → Type} [FloatOps F]

local notation "𝕄" => MT nD τ sig Unit (Elt F) ℕ UU ℕ

/-! ## The stretches and what they write -/

/-- The loop condition's two operations: the bound, and the trip counter compared with it. -/
abbrev condOps : List (HloOp τ sig (Elt F)) :=
  [ StableHlo.nullary main_while0c_c_27 (constantI S_ 32 256#32),
    StableHlo.binary main_v4_1 main_while0c_c_27 main_while0c_v92 (cmpi .slt) ]
/-- The stretches before the loop, of its body, and after it. -/
abbrev preI : List (List (HloOp τ sig (Elt F))) := [hostOps0]
abbrev bodyI : List (List (HloOp τ sig (Elt F))) := [while0Ops0, while0Ops0_1, while0Ops0_2]
abbrev postI : List (List (HloOp τ sig (Elt F))) := [hostOps0_1, hostOps0_2, hostOps0_3]

theorem hpre : Plain (preI (F := F)) := .cons hostOps0_sub .nil
theorem hbodyI : Plain (bodyI (F := F)) := .cons while0Ops0_sub (.cons while0Ops0_1_sub (.cons while0Ops0_2_sub .nil))
theorem hpost : Plain (postI (F := F)) := .cons hostOps0_1_sub (.cons hostOps0_2_sub (.cons hostOps0_3_sub .nil))

/-- No operation of a list writes the buffer `b`. -/
def Keeps (ops : List (HloOp τ sig (Elt F))) (b : Ref sig .tc) : Prop := ∀ V : Valuation τ sig (Elt F), after ops V (Proc.devRef .tc b) = V (Proc.devRef .tc b)

/-- No operation of the program writes the argument. -/
theorem keep_pre : Keeps (F := F) hostOps0 main_arg0 := fun V => by after_reads_simp
theorem keep_cond (b : Ref sig .tc) (h : b ∉ [main_while0c_c_27, main_while0c_v92]) : Keeps (F := F) condOps b :=
  fun V => after_of_writes_sub condOps V (W := [main_while0c_c_27, main_while0c_v92]) (forall_writes_sub_of_map rfl) h
theorem keep_body0 : Keeps (F := F) while0Ops0 main_arg0 := fun V => by after_reads_simp
theorem keep_body1 : Keeps (F := F) while0Ops0_1 main_arg0 := fun V => by after_reads_simp
theorem keep_body2 : Keeps (F := F) while0Ops0_2 main_arg0 := fun V => by after_reads_simp
theorem keep_post1 : Keeps (F := F) hostOps0_1 main_arg0 := fun V => by after_reads_simp
theorem keep_post2 : Keeps (F := F) hostOps0_2 main_arg0 := fun V => by after_reads_simp
theorem keep_post3 : Keeps (F := F) hostOps0_3 main_arg0 := fun V => by after_reads_simp

/-! ## The contents at each boundary -/

variable (m : (ℓ : Loc nD τ sig) → Buf (Elt F) ℓ)

/-- The buffers before the `k`-th run of the loop's condition. -/
abbrev atK (k : ℕ) (c : Dev nD) : Valuation τ sig (Elt F) := atTrip condOps bodyI (entryContents preI m) k c
/-- The buffers when the copy region is entered. -/
abbrev beforeCopy (c : Dev nD) : Valuation τ sig (Elt F) := finalContents condOps preI bodyI postI 256 m c
/-- The same, at the TensorCore's references. -/
abbrev Vb : (c : Dev nD) → (b : Ref sig .tc) → Buf (Elt F) ((c : Thread nD τ).loc b) := fun c b => beforeCopy m c b
/-- The buffers at the end: the region's result at what it wrote back. -/
def last (c : Dev nD) : Valuation τ sig (Elt F) := Function.update (beforeCopy m c) (Proc.devRef .tc main_v91) (copied (Vb m) c)

theorem last_out (c : Dev nD) : last m c main_v91 = copied (Vb m) c := Function.update_self ..
theorem last_of_ne (c : Dev nD) (b : Ref sig .tc) (h : b ≠ main_v91) : last m c b = beforeCopy m c b :=
  Function.update_of_ne (devRef_ne_of_ne h) ..

/-- One trip of the loop: the buffers before the next run of the condition. -/
theorem atK_succ (k : ℕ) (c : Dev nD) :
    atK m (k + 1) c = after while0Ops0_2 (after while0Ops0_1 (after while0Ops0 (after condOps (atK m k c)))) := rfl
/-- The buffers when the copy region is entered, from those before the loop's last test. -/
theorem beforeCopy_eq (c : Dev nD) :
    beforeCopy m c = after hostOps0_3 (after hostOps0_2 (after hostOps0_1 (after condOps (atK m 256 c)))) := rfl

/-- The argument keeps its launch contents through the loop -/
theorem atK_arg0 (c : Dev nD) : ∀ k, atK m k c (Proc.devRef .tc main_arg0) = m ((c.tc : Thread nD τ).loc main_arg0)
  | 0 => (keep_pre (launchContents m c)).trans rfl
  | k + 1 => by
    rw [atK_succ, keep_body2, keep_body1, keep_body0, keep_cond main_arg0 (by decide), atK_arg0 c k]
/-- and to the copy region. -/
theorem beforeCopy_arg0 (c : Dev nD) : beforeCopy m c (Proc.devRef .tc main_arg0) = m ((c.tc : Thread nD τ).loc main_arg0) := by
  rw [beforeCopy_eq, keep_post3, keep_post2, keep_post1, keep_cond main_arg0 (by decide), atK_arg0]

/-! ## The trip counter and the condition -/

theorem keep_ctr0 : Keeps (F := F) while0Ops0 main_v4_1 := fun V => by after_reads_simp
theorem keep_ctr1 : Keeps (F := F) while0Ops0_1 main_v4_1 := fun V => by after_reads_simp
/-- The body's last stretch leaves the counter one more than it was; -/
theorem ctr_step (X : Valuation τ sig (Elt F)) :
    after while0Ops0_2 X (Proc.devRef .tc main_v4_1) = addi (X (Proc.devRef .tc main_v4_1)) (constantI S_ 32 1#32) := by
  after_results
  rfl
/-- it is 0 when the loop is entered, -/
theorem ctr_entry (c : Dev nD) : entryContents preI m c (Proc.devRef .tc main_v4_1) = fun _ => (0#32 : BitVec 32) := by
  simp only [entryContents, afterL_cons, afterL_nil]
  after_results
  rfl
/-- so before the `k`-th run of the condition it is `k`. -/
theorem atK_ctr (c : Dev nD) : ∀ k, atK m k c (Proc.devRef .tc main_v4_1) = fun _ => Scf.iv 0#32 1#32 k
  | 0 => by rw [show atK m 0 c = entryContents preI m c from rfl, ctr_entry, Scf.iv_zero]
  | k + 1 => by
    rw [atK_succ, ctr_step, keep_ctr1, keep_ctr0, keep_cond main_v4_1 (by decide), atK_ctr c k, Scf.iv_succ]
    rfl

-- a rule stated for any thread applies at the TensorCore's only when unification may unfold definitions in a metavariable's type
set_option backward.isDefEq.respectTransparency.types false in
/-- The condition, run for the `k`-th time, says 1 exactly when `k < 256`; whatever rides along is handed back. -/
theorem cond_spec (Rc : Dev nD → sProp 𝕄) :
    LoopCond (pcfgs (F := F)) defs₀ 𝒱₀ loops Rc (main_while0_cond (F := F)) condOps bodyI (entryContents preI m) 256 := by
  intro k hk c bd
  have hctr := atK_ctr m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_27 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  isplitl [Hh]; · rw [after_cons, after_cons, after_nil]; iexact Hh
  iexact HR

/-! ## The segments -/

/-- What rides along beside the buffers: that the core owes nothing. -/
abbrev Rc (c : Dev nD) : sProp 𝕄 := iprop((BI.emp : sProp 𝕄) ∗ ∃ W, owes (c : Thread nD τ) (0 : CellTallies nD τ sig Unit) W)

/-- The one ticket: the copy region's one entry. -/
abbrev tk : Fin 1 → Ticket (Ix := Unit) (Name := ℕ) (U := UU) (Lvl := ℕ) (nD := nD) (τ := τ) (pcfgs (F := F)) adm := fun _ =>
  { p := 0, pdats := pdats (Vb m), EP := embL }

abbrev KitSeg : Type 1 := CSeg (pcfgs (F := F)) adm defs₀ 𝒱₀ L lv loops (tk m)

abbrev preSegs : List (KitSeg m) := segsOf _ _ _ _ _ _ _ _ Rc preI hpre (launchContents m)
abbrev loop0 : KitSeg m :=
  loopSeg _ _ _ _ _ _ _ _ 0 (main_while0_cond (F := F)) (main_while0_body (F := F)) rfl condOps bodyI hbodyI
    (by rw [while0_body_chain]; rfl) 256 (entryContents preI m) Rc (cond_spec m Rc)
abbrev postSegs : List (KitSeg m) := segsOf _ _ _ _ _ _ _ _ Rc postI hpost (fun c => after condOps (atK m 256 c))
abbrev copySeg : KitSeg m :=
  CSeg.region _ _ () cellOf_inj _ _ _ _ _ _ (0 : Fin 1) (reg (Vb m) (fun c b => last m c b) (fun _ => BI.emp) (last_out m) (last_of_ne m))

/-- The program as segments. -/
abbrev segs : List (KitSeg m) := preSegs m ++ loop0 m :: (postSegs m ++ [copySeg m])

theorem segs_prog (c : Dev nD) : main (F := F) c = CSeg.runL (segs m) := by
  rw [main_chain c]
  rfl

theorem segs_disjoint : (segs m).Pairwise fun s s' => Disjoint s.T s'.T := by
  refine List.pairwise_append.mpr ⟨?_, List.pairwise_cons.mpr ⟨?_, List.pairwise_append.mpr ⟨?_, List.pairwise_singleton .., ?_⟩⟩, ?_⟩
  · exact CSeg.pairwise_disjoint_of_T_empty _ fun s hs => (segsOf_M_T _ _ _ _ _ _ _ _ Rc _ _ _ s hs).2
  · intro s _; rw [show (loop0 m).T = ∅ from loopSeg_T _ _ _ _ _ _ _ _ _]; exact Finset.disjoint_empty_left _
  · exact CSeg.pairwise_disjoint_of_T_empty _ fun s hs => (segsOf_M_T _ _ _ _ _ _ _ _ Rc _ _ _ s hs).2
  · intro s hs s' _; rw [(segsOf_M_T _ _ _ _ _ _ _ _ Rc _ _ _ s hs).2]; exact Finset.disjoint_empty_left _
  · intro s hs s' _; rw [(segsOf_M_T _ _ _ _ _ _ _ _ Rc _ _ _ s hs).2]; exact Finset.disjoint_empty_left _

abbrev T₀ (c : Dev nD) : sProp 𝕄 := iprop(held (c : Thread nD τ) (ucRefs τ sig) (launchContents m c) ∗ Rc c)
abbrev Tₙ (c : Dev nD) : sProp 𝕄 := held (c : Thread nD τ) (ucRefs τ sig) (last m c)

omit [FloatOps F] in
/-- The two spellings of "every unscoped buffer at `W`". -/
theorem state_eq (W : Dev nD → Valuation τ sig (Elt F)) (c : Dev nD) :
    (iprop(held (c : Thread nD τ) (ucRefs τ sig) (W c) ∗ Rc c) : sProp 𝕄)
      = iprop(unscopedBufs c (fun b => W c b) ∗ (BI.emp : sProp 𝕄) ∗ ∃ W', owes (c : Thread nD τ) (0 : CellTallies nD τ sig Unit) W') := by
  rw [show unscopedBufs c (fun b => W c b) = held (c : Thread nD τ) (ucRefs τ sig) (W c) from Pipeline.unscopedBufs_held c (W c)]

/-- The segments chain from the launch's buffers to the last ones. -/
theorem segs_chain : CSeg.Chains (T₀ m) (segs m)
    (fun c => iprop(Tₙ m c ∗ ∃ W, owes (c : Thread nD τ) (0 : CellTallies nD τ sig Unit) W)) := by
  refine CSeg.Chains.append (segsOf_chains _ _ _ _ _ _ _ _ Rc preI hpre _) ⟨fun _ => .rfl,
    CSeg.Chains.append (segsOf_chains _ _ _ _ _ _ _ _ Rc postI hpost _) ⟨fun c => ?_, fun c => ?_⟩⟩
  · exact Entails.of_eq (state_eq (beforeCopy m) c)
  · refine (Entails.of_eq (state_eq (last m) c).symm).trans ?_
    iintro ⟨Hh, -, HO⟩
    isplitl [Hh] <;> iassumption

/-! ## The run -/

set_option backward.isDefEq.respectTransparency.types false in
/-- THE RUN: from any memory with its counters at zero every weakly fair execution terminates without fault, every unscoped
    buffer ends at `last`, and every counter at zero. -/
theorem run_all (g : Dev nD → PrngReg) : θ_run (defs (F := F)) (onTc (τ := τ) (main (F := F))) ⟨m, fun _ => 0, g⟩
    (fun r => (∀ (c : Dev nD) (b : Ref sig .tc), (Proc.devRef .tc b : DevRef τ sig).isScoped = false →
      r.2.mem ((c.tc : Thread nD τ).loc b) = last m c (Proc.devRef .tc b)) ∧ r.2.sem = fun _ => 0) :=
  Pipeline.θ_run_regions_loop_kit_sems (pcfgs (F := F)) adm cellOf_inj defs₀ 𝒱₀ L lv loops (tk m) m g main (segs m)
    (fun c Q => by rw [segs_prog m c]) (segs_disjoint m)
    (O₀ := 0) (hL := fun _ _ => rfl) (G := fun _ => iprop(emp))
    (u₀ := (initOf (Pipeline.cells (Pipeline.pin (pcfgs (F := F)) adm) cellOf_inj) (Pipeline.launchToks (Pipeline.pin (pcfgs (F := F)) adm) cellOf_inj), 1))
    (hu₀ := by
      iintro Hu
      ihave H := (ownU_pair _ _) $$ Hu
      icases H with ⟨HP, -⟩
      imodintro
      isplitl [HP]
      · rw [show (Finset.univ : Finset (Fin 1)) = {0} from rfl, BI.bigSep_singleton]; iexact HP
      · iapply (show (BI.emp : sProp 𝕄) ⊢ bigSep Finset.univ (fun _ : Dev nD => (BI.emp : sProp 𝕄)) from by rw [BI.bigSep_emp_const])
        iempintro)
    (T₀ := T₀ m) (Tₙ := Tₙ m) (hch := segs_chain m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      isplitr; · iempintro
      iexists ∅; iexact HO)
    (QY := fun c s => ∀ b ∈ ucRefs τ sig, s.mem ((c : Dev nD), b) = last m c b)
    (hfin := fun c s' => by
      unfold Tₙ held
      iintro ⟨Hh, HSI⟩
      ihave Hr := (pointsTo_read_all (ucRefs τ sig) (fun b => ((c : Dev nD), b)) (fun b => last m c b) s') $$ [Hh HSI]
      · isplitl [Hh] <;> iassumption
      icases Hr with ⟨%h, HSI⟩
      imodintro
      isplitr; · ipureintro; exact h
      iexact HSI)
    (hQ := fun _ h hs => ⟨fun c b hb => h c _ (devRef_mem_ucRefs b hb), sem_eq_zero_of_scoped (by decide) hs⟩)

/-- The result's end contents, the argument unchanged, every counter zero. -/
theorem run (g : Dev nD → PrngReg) : θ_run (defs (F := F)) (onTc (τ := τ) (main (F := F))) ⟨m, fun _ => 0, g⟩
    (fun r => (∀ c : Dev nD, r.2.mem ((c.tc : Thread nD τ).loc main_v91) = copied (Vb m) c
        ∧ r.2.mem ((c.tc : Thread nD τ).loc main_arg0) = m ((c.tc : Thread nD τ).loc main_arg0)) ∧ r.2.sem = fun _ => 0) :=
  (θ_run defs _ _).mono (fun _ h => ⟨fun c => ⟨(h.1 c main_v91 rfl).trans (last_out m c),
    (h.1 c main_arg0 rfl).trans ((last_of_ne m c main_arg0 (by decide)).trans (beforeCopy_arg0 m c))⟩, h.2⟩) (run_all m g)

end Cert.KernelIdeal.Run

end
-- ==== Proof.Copy.lean ====
/-
  WHAT THE COPY KERNEL LEAVES: its result is its operand, entry for entry.
-/
module

public import proofs.«01_k».proof.Proof.KernelIdealRun
public import Idealize.ShloMosaic.Lib.Pipeline.ValueKit
public import Idealize.ShloMosaic.Lib.VecWindow

@[expose] public section

noncomputable section

namespace Cert.KernelIdeal.Run

open Cert.KernelIdeal Cert.KernelIdeal.Gen
open Idealize.ShloMosaic
open Idealize.ShloMosaic.TcCoe Idealize.ShloMosaic.Tactic

variable {F : FTy → Type} [FloatOps F]

/-- A store of a buffer's own sizes leaves what was stored. -/
theorem store_full {sig : RefSig} {κ : Kind} {Val : EltTy → Type} (b : Ref sig κ) (g : (View.whole b).ty.Contents Val) {off : Fin b.ty.shape.rank → ℕ}
    (inb : ∀ a, off a + b.ty.shape.size a ≤ b.ty.shape.size a) (w : b.ty.shape.Idx → Val b.ty.elt) :
    (View.whole b).writes Val g [⟨Rect.unit off b.ty.shape.size inb, w⟩] = w :=
  View.read_writes_full (View.whole b) g inb w []

/-- A store over the whole result buffer of a block recast to its own shape leaves that block. -/
theorem store_whole (f : S8x256x96.Idx → F .f32) (g : (View.whole cc0_stg1_0).ty.Contents (Elt F))
    (inb : ∀ a, (![0, 0, 0] : Fin 3 → ℕ) a + ![8, 256, 96] a ≤ S8x256x96.size a) (h : S8x256x96.ShapeCasts S8x256x96) :
    (View.whole cc0_stg1_0).writes (Elt F) g [⟨Rect.unit ![0, 0, 0] ![8, 256, 96] inb, shapeCast S8x256x96 f h⟩] = f := by
  rw [shapeCast_self]
  exact store_full cc0_stg1_0 g inb f

/-- The one block of the operand's window is the whole operand. -/
theorem emb_in (j : S8x256x96.Idx) : (win0_0.blk t0_0).view.emb j = j := by
  funext a
  apply Fin.ext
  refine (ValueKit.view_emb_slice_whole_unit_val main_v90 _ _ _ j a).trans ?_
  fin_cases a <;> exact Nat.zero_add _

/-- The operand's block as it is fetched is the operand. -/
theorem stg_eq (V : (c : Dev nD) → (b : Ref sig .tc) → Buf (Elt F) ((c : Thread nD τ).loc b)) (c : Dev nD) :
    stg V c = V c main_v90 := funext fun j => congrArg (V c main_v90) (emb_in j)

/-- The body leaves the operand's block. -/
theorem K_eq (V : (c : Dev nD) → (b : Ref sig .tc) → Buf (Elt F) ((c : Thread nD τ).loc b)) (c : Dev nD) : (K V c).1 = stg V c := by
  funext j
  unfold K bodyRun
  dsimp only
  frame_out
  exact congrFun (store_whole (stg V c) _ _ _) j

/-- The array that the region writes back is the array it was given. -/
theorem copied_eq (V : (c : Dev nD) → (b : Ref sig .tc) → Buf (Elt F) ((c : Thread nD τ).loc b)) (c : Dev nD) :
    copied V c = V c main_v90 := by
  unfold copied
  refine (dat V c).arrAt_eq_of_after_last 1 t0_0 (by decide +kernel) _ fun j => ?_
  blk_simp
  exact congrFun ((K_eq V c).trans (stg_eq V c)) j

end Cert.KernelIdeal.Run

end
-- ==== Proof.Meaning.lean ====
/-
  THE STAGES of the computation, as functions of arrays of extended reals: furthest point sampling's step, the gathering of
  centres, their reordering by distance from the corner, the squared distances to the points, the nearest points, and the
  result. Each is written with the operations that the reference's text names.
-/
module

public import proofs.«01_k».proof.Proof.Gen.ReferenceIdeal
public import Idealize.ShloMosaic.PureOps.Ideal

@[expose] public section

noncomputable section

namespace Cert.Value

open Cert.ReferenceIdeal Cert.ReferenceIdeal.Gen
open Idealize.ShloMosaic

/-- An array of numbers, and an array of index words. -/
abbrev Num (s : Shape) : Type := s.Idx → Ideal .f32
abbrev Ind (s : Shape) : Type := IVec s 32

/-- The number of each cloud. -/
abbrev cloud : Ind S8 := iotaInDim S8 32 0

/-- Each cloud's last chosen point. -/
def pick (p : Num S8x16384x3) (l : Ind S8) : Num S8x3 :=
  Host.gather gather_S8x16384x3_S8x2_S8x3_1_01_n_n_01_1_113 p
    (concatenate S8x2 1 [⟨S8x1, broadcastInDim S8x1 ![0] bcast_S8_S8x1_0 cloud⟩, ⟨S8x1, broadcastInDim S8x1 ![0] bcast_S8_S8x1_0 l⟩]
      concatenates_S8x1_S8x1_S8x2_d1)

/-- Each point's displacement from its cloud's last chosen point. -/
def fromPick (p : Num S8x16384x3) (l : Ind S8) : Num S8x16384x3 :=
  subf (F := Ideal) p (broadcastInDim S8x16384x3 ![0, 1, 2] bcast_S8x1x3_S8x16384x3_0_1_2 (broadcastInDim S8x1x3 ![0, 2] bcast_S8x3_S8x1x3_0_2 (pick p l)))

/-- Each point's squared distance to the nearest point chosen so far, once `l` is among them. -/
def newDist (p : Num S8x16384x3) (d : Num S8x16384) (l : Ind S8) : Num S8x16384 :=
  minimumf (F := Ideal) d (Host.reduceAdd (F := Ideal) (mulf (F := Ideal) (fromPick p l) (fromPick p l)) (constant (F := Ideal) S_ .f32 0x00000000#32) reducesTo_S8x16384x3_S8x16384_d2 h_S_)

/-- The least index of each row's greatest distance. -/
def furthest (d : Num S8x16384) : Ind S8 :=
  Host.reduce IntOp.minsi
    (select (cmpf (F := Ideal) .oeq d (broadcastInDim S8x16384 ![0, 1] bcast_S8x1_S8x16384_0_1 (broadcastInDim S8x1 ![0] bcast_S8_S8x1_0
        (Host.reduce (FloatOps.maximumf (F := Ideal) (φ := .f32)) d (constant (F := Ideal) S_ .f32 0xFF800000#32) reducesTo_S8x16384_S8_d1 h_S_))))
      (iotaInDim S8x16384 32 1) (broadcastInDim S8x16384 ![] bcast_S_S8x16384 (constantI S_ 32 16384#32)))
    (constantI S_ 32 2147483647#32) reducesTo_S8x16384_S8_d1 h_S_

/-- The (cloud, entry) pairs of a table with 256 entries per cloud. -/
def pairs (t : Ind S8x256) : Ind S8x256x2 :=
  concatenate S8x256x2 2
    [⟨S8x256x1, broadcastInDim S8x256x1 ![0, 1] bcast_S8x256_S8x256x1_0_1 (broadcastInDim S8x256 ![0, 1] bcast_S8x1_S8x256_0_1 (broadcastInDim S8x1 ![0] bcast_S8_S8x1_0 cloud))⟩,
      ⟨S8x256x1, broadcastInDim S8x256x1 ![0, 1] bcast_S8x256_S8x256x1_0_1 t⟩]
    concatenates_S8x256x1_S8x256x1_S8x256x2_d2

/-- The chosen points. -/
def centres (p : Num S8x16384x3) (t : Ind S8x256) : Num S8x256x3 :=
  Host.gather gather_S8x16384x3_S8x256x2_S8x256x3_2_01_n_n_01_2_113 p (pairs t)

/-- The least coordinate on each axis, over every centre of every cloud. -/
def corner (c : Num S8x256x3) : Num S3 :=
  Host.reduce (FloatOps.minimumf (F := Ideal) (φ := .f32)) c (constant (F := Ideal) S_ .f32 0x7F800000#32) reducesTo_S8x256x3_S3_d0_1 h_S_

/-- Each centre's displacement from a corner `k`. -/
def fromCorner (c : Num S8x256x3) (k : Num S3) : Num S8x256x3 :=
  subf (F := Ideal) c (broadcastInDim S8x256x3 ![0, 1, 2] bcast_S1x1x3_S8x256x3_0_1_2 (broadcastInDim S1x1x3 ![2] bcast_S3_S1x1x3_2 k))

/-- Each centre's squared distance from a corner `k`. -/
def spread (c : Num S8x256x3) (k : Num S3) : Num S8x256 :=
  Host.reduceAdd (F := Ideal) (mulf (F := Ideal) (fromCorner c k) (fromCorner c k)) (constant (F := Ideal) S_ .f32 0x00000000#32) reducesTo_S8x256x3_S8x256_d2 h_S_

/-- The stable ascending order of each row. -/
def order (s : Num S8x256) : Ind S8x256 := (Host.sort2 S8x256 1 (comparator_f32_i32_d1 (F := Ideal)) s (iotaInDim S8x256 32 1)).2

/-- The centres in an order. -/
def reorder (c : Num S8x256x3) (o : Ind S8x256) : Num S8x256x3 :=
  Host.gather gather_S8x256x3_S8x256x2_S8x256x3_2_01_n_n_01_2_113 c (pairs o)

/-- The squared distance of every point from every centre: `|c|² + |p|² - 2 c·p`. -/
def dist2 (p : Num S8x16384x3) (c : Num S8x256x3) : Num S8x256x16384 :=
  subf (F := Ideal)
    (addf (F := Ideal)
      (broadcastInDim S8x256x16384 ![0, 1, 2] bcast_S8x256x1_S8x256x16384_0_1_2 (broadcastInDim S8x256x1 ![0, 1] bcast_S8x256_S8x256x1_0_1
        (Host.reduceAdd (F := Ideal) (mulf (F := Ideal) c c) (constant (F := Ideal) S_ .f32 0x00000000#32) reducesTo_S8x256x3_S8x256_d2 h_S_)))
      (broadcastInDim S8x256x16384 ![0, 1, 2] bcast_S8x1x16384_S8x256x16384_0_1_2 (broadcastInDim S8x1x16384 ![0, 2] bcast_S8x16384_S8x1x16384_0_2
        (Host.reduceAdd (F := Ideal) (mulf (F := Ideal) p p) (constant (F := Ideal) S_ .f32 0x00000000#32) reducesTo_S8x16384x3_S8x16384_d2 h_S_))))
    (mulf (F := Ideal) (broadcastInDim S8x256x16384 ![] bcast_S_S8x256x16384 (constant (F := Ideal) S_ .f32 0x40000000#32))
      (Host.dotGeneral (F := Ideal) dot_S8x256x3_S8x16384x3_S8x256x16384_2_2_1_1_0_0 none c p))

/-- Every row's points in ascending order, equal ones by index. -/
def ranked (d : Num S8x256x16384) : Ind S8x256x16384 :=
  (Host.sort2 S8x256x16384 2 (comparator_f32_i32_d2 (F := Ideal)) d (iotaInDim S8x256x16384 32 2)).2

/-- The 32 nearest points of each centre, nearest first. -/
def nearest (r : Ind S8x256x16384) : Ind S8x256x32 := extractStridedSlice S8x256x32 ![0, 0, 0] r slices_S8x256x16384_S8x256x32_0_0_0

/-- The (cloud, entry) pairs of a table with 256 by 32 entries per cloud. -/
def pairs32 (n : Ind S8x256x32) : Ind S8x256x32x2 :=
  concatenate S8x256x32x2 3
    [⟨S8x256x32x1, broadcastInDim S8x256x32x1 ![0, 1, 2] bcast_S8x256x32_S8x256x32x1_0_1_2 (broadcastInDim S8x256x32 ![0, 1, 2] bcast_S8x1x1_S8x256x32_0_1_2 (broadcastInDim S8x1x1 ![0] bcast_S8_S8x1x1_0 cloud))⟩,
      ⟨S8x256x32x1, broadcastInDim S8x256x32x1 ![0, 1, 2] bcast_S8x256x32_S8x256x32x1_0_1_2 n⟩]
    concatenates_S8x256x32x1_S8x256x32x1_S8x256x32x2_d3

/-- The nearest points relative to their centres, coordinate before neighbour, each centre's block flattened. -/
def result (p : Num S8x16384x3) (c : Num S8x256x3) (n : Ind S8x256x32) : Num S8x256x96 :=
  shapeCast S8x256x96
    (transpose S8x256x3x32 [0, 1, 3, 2]
      (subf (F := Ideal) (Host.gather gather_S8x16384x3_S8x256x32x2_S8x256x32x3_3_01_n_n_01_3_113 p (pairs32 n))
        (broadcastInDim S8x256x32x3 ![0, 1, 2, 3] bcast_S8x256x1x3_S8x256x32x3_0_1_2_3 (broadcastInDim S8x256x1x3 ![0, 1, 3] bcast_S8x256x3_S8x256x1x3_0_1_3 c)))
      transposes_S8x256x32x3_S8x256x3x32_0_1_3_2)
    shapeCasts_S8x256x3x32_S8x256x96

/-- The centres in their final order, from the table of chosen points. -/
def arranged (p : Num S8x16384x3) (t : Ind S8x256) : Num S8x256x3 :=
  reorder (centres p t) (order (spread (centres p t) (corner (centres p t))))

/-- The whole computation, from the table of chosen points. -/
def grouped (p : Num S8x16384x3) (t : Ind S8x256) : Num S8x256x96 :=
  result p (arranged p t) (nearest (ranked (dist2 p (arranged p t))))

end Cert.Value

end
-- ==== Proof.Words.lean ====
/-
  INDEX WORDS. Python's rule for a negative index (add the size) changes nothing in an index that is not negative; small
  natural numbers are read back from their 32-bit words; what positive and negative infinity's patterns denote.
-/
module

public import Idealize.ShloMosaic.PureOps.Ideal
public import Idealize.ShloMosaic.PureOps.Ideal.Laws
public import Idealize.ShloMosaic.PureOps.Vector
public import Idealize.ShloMosaic.PureOps.ShapeOps

@[expose] public section

noncomputable section

namespace Cert.Value

open Idealize.ShloMosaic

/-- A natural number below `2 ^ 31`, read back from its 32-bit word. -/
theorem toInt_ofNat_small (n : ℕ) (h : n < 2147483648) : (BitVec.ofNat 32 n).toInt = (n : ℤ) := by
  have hn : (BitVec.ofNat 32 n).toNat = n := by rw [BitVec.toNat_ofNat]; omega
  rw [BitVec.toInt_eq_toNat_of_lt (by omega), hn]

/-- Negative infinity's pattern. -/
theorem ofBits_bot : Ideal.ofBits .f32 0xFF800000#32 = ⊥ := by
  simp [Ideal.ofBits, Ideal.ieee]

/-- Positive infinity's pattern. -/
theorem ofBits_top : Ideal.ofBits .f32 0x7F800000#32 = ⊤ := by
  simp [Ideal.ofBits, Ideal.ieee]

/-- Adding the size to the negative indices changes no array of indices that are not negative. -/
theorem wrap_eq {s : Shape} (x n z : IVec s 32) (hz : ∀ i, z i = 0#32) (h : ∀ i, 0 ≤ (x i).toInt) :
    select (cmpi .slt x z) (addi x n) x = x := by
  funext i
  have : ¬ (x i).toInt < 0 := not_lt.mpr (h i)
  simp [select, Scalar.select, cmpi, IntOp.cmpi, BitVec.slt, hz i, this]

/-- A coordinate's number is not negative. -/
theorem iota_nonneg (s : Shape) (d : Fin s.rank) (hs : s.size d ≤ 2147483648) (i : s.Idx) : 0 ≤ (iotaInDim s 32 d i).toInt := by
  show 0 ≤ (BitVec.ofNat 32 (i d).val).toInt
  rw [toInt_ofNat_small _ (lt_of_lt_of_le (i d).isLt hs)]
  omega

end Cert.Value

end
-- ==== Proof.Corner.lean ====
/-
  THE CORNER. The least coordinate on each axis over all clouds and centres: taken of the three axes at once, or of one axis
  at a time and put side by side.
-/
module

public import proofs.«01_k».proof.Proof.Words
public import Idealize.ShloMosaic.PureOps.Reduce
public import proofs.«01_k».proof.KernelIdeal

@[expose] public section

noncomputable section

namespace Cert.Value

open Idealize.ShloMosaic
open Cert.KernelIdeal (S8x256x3 S8x256x1 S8x256 S3 S1 S_)

instance : Std.Commutative (FloatOps.minimumf : Ideal .f32 → Ideal .f32 → Ideal .f32) := ⟨fun a b => min_comm (a : EReal) b⟩
instance : Std.Associative (FloatOps.minimumf : Ideal .f32 → Ideal .f32 → Ideal .f32) := ⟨fun a b c => min_assoc (a : EReal) b c⟩

/-- A number is below a minimum over the entries that reduce to `j` exactly when it is below each of them. -/
theorem le_reduce_min {s t : Shape} {axes : List (Fin s.rank)} (x : s.Idx → Ideal .f32) (h : s.ReducesTo axes t) (hS : 0 < S_.numel) (j : t.Idx) (r : EReal) :
    r ≤ (Host.reduce (FloatOps.minimumf (F := Ideal) (φ := .f32)) x (constant (F := Ideal) S_ .f32 0x7F800000#32) h hS j) ↔ ∀ i, h.drop i = j → r ≤ (x i : EReal) := by
  rw [Host.reduce_eq_fold]
  refine (Finset.le_fold_min (s := Finset.univ.filter fun i => h.drop i = j) (f := fun i => (x i : EReal))
    (b := (Ideal.ofBits .f32 0x7F800000#32 : EReal)) r).trans ?_
  rw [ofBits_top]
  simp

/-- One axis's least coordinate, from the slice of that axis. -/
theorem axis_min (h3 : S8x256x3.ReducesTo [0, 1] S3) (h2 : S8x256.ReducesTo [0, 1] S_) (hS : 0 < S_.numel) (k : Fin 3) (off : Fin 3 → ℕ)
    (hoff : off = ![0, 0, k.val]) (hs : S8x256x3.Slices off S8x256x1) (hc : S8x256x1.ShapeCasts S8x256) (x : S8x256x3.Idx → Ideal .f32) (j : S_.Idx) (q : S3.Idx)
    (hq : (q 0).val = k.val) :
    Host.reduce (FloatOps.minimumf (F := Ideal) (φ := .f32)) (shapeCast S8x256 (extractStridedSlice S8x256x1 off x hs) hc) (constant (F := Ideal) S_ .f32 0x7F800000#32) h2 hS j
      = Host.reduce (FloatOps.minimumf (F := Ideal) (φ := .f32)) x (constant (F := Ideal) S_ .f32 0x7F800000#32) h3 hS q := by
  refine eq_of_forall_le_iff (α := EReal) fun r => ?_
  rw [le_reduce_min, le_reduce_min]
  subst hoff
  constructor
  · intro hr i hi
    have hik : (i 2).val = k.val := by rw [← hq, ← hi]; rfl
    let z : S8x256x1.Idx := fun a => match a with
      | ⟨0, _⟩ => ⟨(i 0).val, (i 0).isLt⟩
      | ⟨1, _⟩ => ⟨(i 1).val, (i 1).isLt⟩
      | ⟨2, _⟩ => (⟨0, by decide⟩ : Fin 1)
    have := hr ((Shape.reshapeEquiv hc).symm z) (funext fun b => b.elim0)
    unfold shapeCast extractStridedSlice at this
    rw [Equiv.apply_symm_apply] at this
    convert this using 2
    funext a
    apply Fin.ext
    match a with
    | ⟨0, _⟩ => exact (Nat.zero_add _).symm
    | ⟨1, _⟩ => exact (Nat.zero_add _).symm
    | ⟨2, _⟩ => exact hik
  · intro hr i _
    refine hr _ ?_
    funext b
    have hb : b = 0 := Subsingleton.elim (α := Fin 1) _ _
    subst hb
    apply Fin.ext
    have hz : ((Shape.reshapeEquiv hc i) 2).val < 1 := ((Shape.reshapeEquiv hc i) 2).isLt
    show k.val + ((Shape.reshapeEquiv hc i) 2).val = (q 0).val
    omega

end Cert.Value

end
-- ==== Proof.TopK.lean ====
/-
  THE NEAREST POINTS. The greatest entries of a negated array, in order, lie where an ascending stable argsort of the array
  puts its first entries. And every entry of an argsort is a position of its axis.
-/
module

public import proofs.«01_k».proof.Proof.Words
public import Idealize.ShloMosaic.Lib.SortFacts
public import proofs.«01_k».proof.ReferenceIdeal

@[expose] public section

noncomputable section

namespace Cert.Value

open Idealize.ShloMosaic
open Cert.ReferenceIdeal (comparator_f32_i32_d1 comparator_f32_i32_d2 S8x256 S8x256x16384 S8x256x32)

/-- The comparator of the argsort: over the extended reals, the values compared. -/
theorem comparator_eq (l r : Ideal .f32 × BitVec 32) :
    comparator_f32_i32_d2 l r = BitVec.ofBool (decide ((l.1 : EReal) < r.1)) := by
  have canon : ∀ a : Ideal .f32, Scalar.select (FloatOps.cmpf .une a a) (FloatOps.ofBits .f32 0x7FC00000#32)
      (Scalar.select (FloatOps.cmpf .oeq a (FloatOps.ofBits .f32 0x00000000#32)) (FloatOps.ofBits .f32 0x00000000#32) a) = a := by
    intro a
    have h0 : FloatOps.ofBits (F := Ideal) .f32 0x00000000#32 = (0 : EReal) := Ideal.ofBits_zero_f32
    have h1 : Scalar.select (FloatOps.cmpf .oeq a (FloatOps.ofBits .f32 0x00000000#32)) (FloatOps.ofBits .f32 0x00000000#32) a = a := by
      rw [Ideal.cmpf_def]
      by_cases h : a = FloatOps.ofBits .f32 0x00000000#32
      · rw [← h]; simp [Scalar.select]
      · rw [h0] at h ⊢
        have : decide ((a : EReal) = 0) = false := decide_eq_false h
        simp [Ideal.cmp, Scalar.select, this]
    rw [h1, Ideal.cmpf_def]
    simp [Ideal.cmp, Scalar.select]
  unfold comparator_f32_i32_d2
  dsimp only
  rw [canon, canon, Ideal.cmpfTotal_def]
  rfl

/-- The greater of two negated values is the lesser value. -/
theorem negated_gt (a b : Ideal .f32) :
    FloatOps.cmpfTotal .gt (FloatOps.negf a) (FloatOps.negf b) = BitVec.ofBool (decide ((a : EReal) < b)) := by
  rw [Ideal.cmpfTotal_def]
  show BitVec.ofBool (decide ((-b : EReal) < -a)) = _
  simp only [EReal.neg_lt_neg_iff]

/-- The indices of the 32 greatest negated entries are the first 32 indices of the ascending argsort. -/
theorem topK_neg (h : S8x256x16384.Slices (fun _ => 0) S8x256x32) (h' : S8x256x16384.Slices ![0, 0, 0] S8x256x32) (x : S8x256x16384.Idx → Ideal .f32) :
    (Host.topK S8x256x32 2 (FloatOps.cmpfTotal (F := Ideal) (φ := .f32) .gt) (Host.negf (F := Ideal) x) h).2
      = extractStridedSlice S8x256x32 ![0, 0, 0] (Host.sort2 S8x256x16384 2 (comparator_f32_i32_d2 (F := Ideal)) x (iotaInDim S8x256x16384 32 2)).2 h' := by
  have hs : (Host.sort2 S8x256x16384 2 (fun l r : Ideal .f32 × BitVec 32 => FloatOps.cmpfTotal (F := Ideal) (φ := .f32) .gt l.1 r.1) (Host.negf (F := Ideal) x)
        (iotaInDim S8x256x16384 32 2)).2
      = (Host.sort2 S8x256x16384 2 (comparator_f32_i32_d2 (F := Ideal)) x (iotaInDim S8x256x16384 32 2)).2 := by
    unfold Host.sort2
    rw [dif_pos (by decide), dif_pos (by decide)]
    funext j
    dsimp only
    rw [sortedFrom_congr]
    intro k k' _
    rw [comparator_eq]
    exact congrArg (· == 1#1) (negated_gt _ _)
  funext j
  have e0 : (fun _ => 0 : Fin 3 → ℕ) = ![0, 0, 0] := by decide
  unfold Host.topK
  dsimp only
  refine (congrFun (congrArg (fun y => extractStridedSlice S8x256x32 (fun _ => 0) y h) hs) j).trans ?_
  unfold extractStridedSlice
  refine congrArg _ (funext fun a => Fin.ext ?_)
  exact congrArg (fun f : Fin 3 → ℕ => f a + _) e0

/-- Every entry of the index half of an argsort is a position of its axis, hence not negative. -/
theorem argsort_nonneg {α : Type} (s : Shape) (d : ℕ) (hd : d < s.rank) (hs : s.size ⟨d, hd⟩ ≤ 2147483648) (cmp : α × BitVec 32 → α × BitVec 32 → BitVec 1)
    (x : s.Idx → α) (j : s.Idx) : 0 ≤ ((Host.sort2 s d cmp x (iotaInDim s 32 ⟨d, hd⟩)).2 j).toInt := by
  unfold Host.sort2
  rw [dif_pos hd]
  exact iota_nonneg s ⟨d, hd⟩ hs _

end Cert.Value

end
-- ==== Proof.Argmax.lean ====
/-
  THE FURTHEST POINT. One program takes an arg-max as a single fold of (value, index) pairs; the other takes the maximum and
  then the least index whose value is that maximum. Over the extended reals the two are the same index, and it is an index
  of the row.
-/
module

public import proofs.«01_k».proof.Proof.Words
public import Idealize.ShloMosaic.PureOps.Reduce
public import proofs.«01_k».proof.KernelIdeal
public import proofs.«01_k».proof.ReferenceIdeal

@[expose] public section

noncomputable section

namespace Cert.Value

open Idealize.ShloMosaic
open Cert.KernelIdeal (reducer_argmax_f32_i32 S8x16384 S8 S8x1 S_)

section Lists

variable {ι : Type} (x : ι → Ideal .f32) (y : ι → BitVec 32)

/-- A pair is a row's answer when its value bounds every value, its index is some entry's with that value (or the start
    pair's), and no entry with that value has a lesser index. -/
structure Best (s : Ideal .f32 × BitVec 32) (l : List ι) (p : Ideal .f32 × BitVec 32) : Prop where
  start_le : s.1 ≤ p.1
  start_least : s.1 = p.1 → p.2.toInt ≤ s.2.toInt
  le : ∀ n ∈ l, x n ≤ p.1
  least : ∀ n ∈ l, x n = p.1 → p.2.toInt ≤ (y n).toInt
  mem : p = s ∨ ∃ n ∈ l, p = (x n, y n)

/-- The pair the body keeps, by cases on which value is greater and, of equal values, which index is less. -/
theorem reducer_cases (a b : Ideal .f32 × BitVec 32) :
    (b.1 < a.1 ∧ reducer_argmax_f32_i32 a b = a) ∨ (a.1 < b.1 ∧ reducer_argmax_f32_i32 a b = b) ∨
      (a.1 = b.1 ∧ a.2.toInt < b.2.toInt ∧ reducer_argmax_f32_i32 a b = a) ∨
      (a.1 = b.1 ∧ b.2.toInt ≤ a.2.toInt ∧ reducer_argmax_f32_i32 a b = b) := by
  obtain ⟨a1, a2⟩ := a
  obtain ⟨b1, b2⟩ := b
  rcases lt_trichotomy (a1 : EReal) b1 with h | h | h
  · refine Or.inr (Or.inl ⟨h, ?_⟩)
    have h1 : ¬ (b1 : EReal) < a1 := not_lt.mpr h.le
    have h2 : (a1 : EReal) ≠ b1 := h.ne
    simp [reducer_argmax_f32_i32, Ideal.cmpf_def, Ideal.cmp, h1, h2, Scalar.select, IntOp.ori, IntOp.andi]
  · subst h
    by_cases hs : a2.toInt < b2.toInt
    · refine Or.inr (Or.inr (Or.inl ⟨rfl, hs, ?_⟩))
      simp [reducer_argmax_f32_i32, Ideal.cmpf_def, Ideal.cmp, Scalar.select, IntOp.ori, IntOp.andi, IntOp.cmpi, BitVec.slt, hs]
    · refine Or.inr (Or.inr (Or.inr ⟨rfl, not_lt.mp hs, ?_⟩))
      simp [reducer_argmax_f32_i32, Ideal.cmpf_def, Ideal.cmp, Scalar.select, IntOp.ori, IntOp.andi, IntOp.cmpi, BitVec.slt, hs]
  · refine Or.inl ⟨h, ?_⟩
    have h2 : (a1 : EReal) ≠ b1 := h.ne'
    simp [h2, reducer_argmax_f32_i32, Ideal.cmpf_def, Ideal.cmp, h, Scalar.select, IntOp.ori, IntOp.andi]

/-- The fold of the body over a list, from a start pair, is that list's best pair. -/
theorem best_foldl (s : Ideal .f32 × BitVec 32) (l : List ι) :
    Best x y s l (l.foldl (fun r n => reducer_argmax_f32_i32 r (x n, y n)) s) := by
  induction l using List.reverseRecOn with
  | nil => exact ⟨le_rfl, fun _ => le_rfl, by simp, by simp, Or.inl rfl⟩
  | append_singleton l n ih =>
    rw [List.foldl_append, List.foldl_cons, List.foldl_nil]
    set a := l.foldl (fun r n => reducer_argmax_f32_i32 r (x n, y n)) s
    obtain ⟨h1, h2, h3, h4, h5⟩ := ih
    rcases reducer_cases a (x n, y n) with ⟨h, e⟩ | ⟨h, e⟩ | ⟨h, h', e⟩ | ⟨h, h', e⟩ <;> rw [e] <;> dsimp only at h
    · refine ⟨h1, h2, ?_, ?_, ?_⟩
      · intro m hm
        rcases List.mem_append.mp hm with hm | hm
        · exact h3 m hm
        · obtain rfl := List.mem_singleton.mp hm; exact h.le
      · intro m hm e'
        rcases List.mem_append.mp hm with hm | hm
        · exact h4 m hm e'
        · obtain rfl := List.mem_singleton.mp hm; exact absurd e' h.ne
      · exact h5.imp_right fun ⟨m, hm, e'⟩ => ⟨m, List.mem_append_left _ hm, e'⟩
    · refine ⟨h1.trans h.le, fun e' => absurd (h1 : s.1 ≤ a.1) (not_le.mpr (by rw [e']; exact h)), ?_, ?_, Or.inr ⟨n, by simp, rfl⟩⟩
      · intro m hm
        rcases List.mem_append.mp hm with hm | hm
        · exact (h3 m hm).trans h.le
        · obtain rfl := List.mem_singleton.mp hm; exact le_rfl
      · intro m hm e'
        rcases List.mem_append.mp hm with hm | hm
        · exact absurd (h3 m hm) (not_le.mpr (by rw [e']; exact h))
        · obtain rfl := List.mem_singleton.mp hm; exact le_rfl
    · dsimp only at h'
      refine ⟨h1, h2, ?_, ?_, ?_⟩
      · intro m hm
        rcases List.mem_append.mp hm with hm | hm
        · exact h3 m hm
        · obtain rfl := List.mem_singleton.mp hm; exact h.ge
      · intro m hm e'
        rcases List.mem_append.mp hm with hm | hm
        · exact h4 m hm e'
        · obtain rfl := List.mem_singleton.mp hm; exact h'.le
      · exact h5.imp_right fun ⟨m, hm, e'⟩ => ⟨m, List.mem_append_left _ hm, e'⟩
    · dsimp only at h'
      refine ⟨h ▸ h1, fun e' => h'.trans (h2 (e'.trans h.symm)), ?_, ?_, Or.inr ⟨n, by simp, rfl⟩⟩
      · intro m hm
        rcases List.mem_append.mp hm with hm | hm
        · exact h ▸ h3 m hm
        · obtain rfl := List.mem_singleton.mp hm; exact le_rfl
      · intro m hm e'
        rcases List.mem_append.mp hm with hm | hm
        · exact h'.trans (h4 m hm (e'.trans h.symm))
        · obtain rfl := List.mem_singleton.mp hm; exact le_rfl

/-- A fold of an operation that returns one of its two operands returns the start or an entry. -/
theorem foldl_mem {α : Type} (f : α → α → α) (hf : ∀ a b, f a b = a ∨ f a b = b) (v : ι → α) (s : α) (l : List ι) :
    l.foldl (fun r n => f r (v n)) s = s ∨ ∃ n ∈ l, l.foldl (fun r n => f r (v n)) s = v n := by
  induction l using List.reverseRecOn with
  | nil => exact Or.inl rfl
  | append_singleton l n ih =>
    rw [List.foldl_append, List.foldl_cons, List.foldl_nil]
    rcases hf (l.foldl (fun r n => f r (v n)) s) (v n) with e | e <;> rw [e]
    · exact ih.imp_right fun ⟨m, hm, e'⟩ => ⟨m, List.mem_append_left _ hm, e'⟩
    · exact Or.inr ⟨n, by simp, rfl⟩

/-- A fold of an operation at least as great as its operands, in some order, bounds every entry. -/
theorem le_foldl {α β : Type} [Preorder β] (f : α → α → α) (w : α → β) (hl : ∀ a b, w a ≤ w (f a b)) (hr : ∀ a b, w b ≤ w (f a b))
    (v : ι → α) (s : α) (l : List ι) : ∀ n ∈ l, w (v n) ≤ w (l.foldl (fun r n => f r (v n)) s) := by
  induction l using List.reverseRecOn with
  | nil => simp
  | append_singleton l n ih =>
    intro m hm
    rw [List.foldl_append, List.foldl_cons, List.foldl_nil]
    rcases List.mem_append.mp hm with hm | hm
    · exact (ih m hm).trans (hl _ _)
    · obtain rfl := List.mem_singleton.mp hm; exact hr _ _

theorem minsi_cases (a b : BitVec 32) : (a.toInt < b.toInt ∧ IntOp.minsi a b = a) ∨ (b.toInt ≤ a.toInt ∧ IntOp.minsi a b = b) := by
  by_cases h : a.toInt < b.toInt
  · exact Or.inl ⟨h, by simp [IntOp.minsi, BitVec.slt, h]⟩
  · exact Or.inr ⟨not_lt.mp h, by simp [IntOp.minsi, BitVec.slt, h]⟩

/-- THE TWO WAYS AGREE on a list some entry of which has index zero and all of whose indices are at least zero and below
    `16384`, and the index they find is among those. -/
theorem argmax_foldl (l : List ι) (hy : ∀ n ∈ l, 0 ≤ (y n).toInt ∧ (y n).toInt < 16384) (n₀ : ι) (hn₀ : n₀ ∈ l) (h₀ : y n₀ = 0#32)
    (v : ι → BitVec 32)
    (hv : ∀ n ∈ l, v n = Scalar.select (FloatOps.cmpf .oeq (x n) (l.foldl (fun r n => FloatOps.maximumf r (x n)) (⊥ : EReal))) (y n) 16384#32) :
    (l.foldl (fun r n => reducer_argmax_f32_i32 r (x n, y n)) ((⊥ : EReal), 0#32)).2 = l.foldl (fun r n => IntOp.minsi r (v n)) 2147483647#32
      ∧ 0 ≤ (l.foldl (fun r n => IntOp.minsi r (v n)) 2147483647#32).toInt
      ∧ (l.foldl (fun r n => IntOp.minsi r (v n)) 2147483647#32).toInt < 16384 := by
  obtain ⟨-, -, h3, h4, h5⟩ := best_foldl x y ((⊥ : EReal), 0#32) l
  set p := l.foldl (fun r n => reducer_argmax_f32_i32 r (x n, y n)) ((⊥ : EReal), 0#32)
  -- the best pair is some entry's
  have hp : ∃ n ∈ l, x n = p.1 ∧ y n = p.2 := by
    rcases h5 with h5 | ⟨n, hn, e⟩
    · refine ⟨n₀, hn₀, ?_, ?_⟩
      · have := h3 n₀ hn₀
        rw [h5] at this ⊢
        exact le_bot_iff.mp this
      · rw [h5, h₀]
    · exact ⟨n, hn, by rw [e], by rw [e]⟩
  obtain ⟨n₁, hn₁, hx₁, hy₁⟩ := hp
  -- the maximum is the best pair's value
  set M := l.foldl (fun r n => FloatOps.maximumf r (x n)) (⊥ : EReal)
  have hM : M = p.1 := by
    apply le_antisymm
    · rcases foldl_mem (fun a b : EReal => max a b) (fun a b => (max_choice a b)) x ⊥ l with e | ⟨n, hn, e⟩
      · exact (show M = ⊥ from e) ▸ bot_le
      · exact (show M = x n from e) ▸ h3 n hn
    · rw [← hx₁]
      exact le_foldl (fun a b : EReal => max a b) id (fun a b => le_max_left a b) (fun a b => le_max_right a b) x ⊥ l n₁ hn₁
  -- what the selection holds
  have hsel : ∀ n ∈ l, v n = if x n = p.1 then y n else 16384#32 := by
    intro n hn
    rw [hv n hn, hM]
    by_cases e : x n = p.1 <;> simp [Scalar.select, Ideal.cmpf_def, Ideal.cmp, e]
  set r := l.foldl (fun r n => IntOp.minsi r (v n)) 2147483647#32
  have hle : r.toInt ≤ p.2.toInt := by
    have := le_foldl (β := ℤᵒᵈ) IntOp.minsi (fun a => OrderDual.toDual a.toInt)
      (fun a b => by rcases minsi_cases a b with ⟨h, e⟩ | ⟨h, e⟩ <;> rw [e] <;> first | exact le_rfl | exact h)
      (fun a b => by rcases minsi_cases a b with ⟨h, e⟩ | ⟨h, e⟩ <;> rw [e] <;> first | exact le_rfl | exact h.le) v 2147483647#32 l n₁ hn₁
    rw [hsel n₁ hn₁, if_pos hx₁, hy₁] at this
    exact this
  have hpr := hy n₁ hn₁
  rw [hy₁] at hpr
  have hge : p.2.toInt ≤ r.toInt := by
    rcases foldl_mem IntOp.minsi (fun a b => by rcases minsi_cases a b with ⟨-, e⟩ | ⟨-, e⟩ <;> simp [e]) v 2147483647#32 l with e | ⟨n, hn, e⟩
    · rw [show r = 2147483647#32 from e, show (2147483647#32).toInt = 2147483647 by decide]; omega
    · rw [show r = v n from e, hsel n hn]
      split
      · exact h4 n hn ‹_›
      · rw [show (16384#32).toInt = 16384 by decide]; omega
  have hr : p.2 = r := BitVec.eq_of_toInt_eq (le_antisymm hge hle)
  exact ⟨hr, hr ▸ hpr.1, hr ▸ hpr.2⟩

end Lists

/-- The maximum of each row. -/
abbrev rowMax (h : S8x16384.ReducesTo [1] S8) (hS : 0 < S_.numel) (d : S8x16384.Idx → Ideal .f32) : S8.Idx → Ideal .f32 :=
  Host.reduce FloatOps.maximumf d (constant (F := Ideal) S_ .f32 0xFF800000#32) h hS

/-- The least index of each row whose value is the row's maximum. -/
abbrev leastArgmax (h : S8x16384.ReducesTo [1] S8) (hS : 0 < S_.numel) (h1 : S8.BroadcastsInDim S8x1 ![0])
    (h2 : S8x1.BroadcastsInDim S8x16384 ![0, 1]) (d : S8x16384.Idx → Ideal .f32) : S8.Idx → BitVec 32 :=
  Host.reduce IntOp.minsi
    (select (cmpf .oeq d (broadcastInDim S8x16384 ![0, 1] h2 (broadcastInDim S8x1 ![0] h1 (rowMax h hS d))))
      (iotaInDim S8x16384 32 1) (fun _ => 16384#32))
    (fun _ => 2147483647#32) h hS

/-- THE FURTHEST POINT: the fold of pairs finds the least index of the maximum, an index of the row. -/
theorem argmax_eq (h : S8x16384.ReducesTo [1] S8) (hS : 0 < S_.numel) (h1 : S8.BroadcastsInDim S8x1 ![0])
    (h2 : S8x1.BroadcastsInDim S8x16384 ![0, 1]) (d : S8x16384.Idx → Ideal .f32) (j : S8.Idx) :
    (Host.argReduce reducer_argmax_f32_i32 d (iotaInDim S8x16384 32 1) (constant (F := Ideal) S_ .f32 0xFF800000#32) (fun _ => 0#32) h hS j).2
        = leastArgmax h hS h1 h2 d j
      ∧ 0 ≤ (leastArgmax h hS h1 h2 d j).toInt ∧ (leastArgmax h hS h1 h2 d j).toInt < 16384 := by
  rw [Ideal.argReduce_eq_reduce2]
  have hcoord : ∀ i : S8x16384.Idx, h.drop i = j → (i 0).val = (j 0).val := fun i hi => by rw [← hi]; rfl
  let i₀ : S8x16384.Idx := fun a => match a with
    | ⟨0, _⟩ => ⟨(j 0).val, (j 0).isLt⟩
    | ⟨1, _⟩ => (⟨0, by decide⟩ : Fin 16384)
  have hi₀ : h.drop i₀ = j := by
    funext b
    have hb : b = 0 := Subsingleton.elim (α := Fin 1) _ _
    subst hb
    rfl
  have key := argmax_foldl (fun n => d (S8x16384.rowMajor.symm n)) (fun n => iotaInDim S8x16384 32 1 (S8x16384.rowMajor.symm n))
    ((List.finRange S8x16384.numel).filter fun n => h.drop (S8x16384.rowMajor.symm n) = j)
    (fun n _ => by
      have hlt : ((S8x16384.rowMajor.symm n) 1).val < 16384 := ((S8x16384.rowMajor.symm n) 1).isLt
      have e := toInt_ofNat_small ((S8x16384.rowMajor.symm n) 1).val (by omega)
      show 0 ≤ (BitVec.ofNat 32 ((S8x16384.rowMajor.symm n) 1).val).toInt ∧ (BitVec.ofNat 32 ((S8x16384.rowMajor.symm n) 1).val).toInt < 16384
      rw [e]; omega)
    (S8x16384.rowMajor i₀) (by simp [hi₀]) (by rw [Equiv.symm_apply_apply]; rfl)
    (fun n => select (cmpf .oeq d (broadcastInDim S8x16384 ![0, 1] h2 (broadcastInDim S8x1 ![0] h1 (rowMax h hS d))))
      (iotaInDim S8x16384 32 1) (fun _ => 16384#32) (S8x16384.rowMajor.symm n))
    (fun n hn => by
      have hn' := hcoord _ (of_decide_eq_true (List.mem_filter.mp hn).2)
      have hb : broadcastInDim S8x16384 ![0, 1] h2 (broadcastInDim S8x1 ![0] h1 (rowMax h hS d)) (S8x16384.rowMajor.symm n) = rowMax h hS d j := by
        unfold broadcastInDim
        refine congrArg (rowMax h hS d) (funext fun a => ?_)
        have ha : a = 0 := Subsingleton.elim (α := Fin 1) _ _
        subst ha
        exact Fin.ext hn'
      show Scalar.select (FloatOps.cmpf .oeq _ (broadcastInDim S8x16384 ![0, 1] h2 (broadcastInDim S8x1 ![0] h1 (rowMax h hS d)) _)) _ _ = _
      rw [hb, ← ofBits_bot]
      rfl)
  rw [← ofBits_bot] at key
  exact key

end Cert.Value

end
-- ==== Proof.Sampling.lean ====
/-
  FURTHEST POINT SAMPLING as a recursion: the distances and the last choice after `k` trips, and the table of choices. Every
  choice is a point's index, so no entry of the table is negative.
-/
module

public import proofs.«01_k».proof.Proof.Meaning
public import proofs.«01_k».proof.Proof.Argmax
public import Idealize.ShloMosaic.Lib.ValueIdxCore
public import Idealize.ShloMosaic.Lib.WordArith.Masks

@[expose] public section

noncomputable section

namespace Cert.Value

open Cert.ReferenceIdeal Cert.ReferenceIdeal.Gen
open Idealize.ShloMosaic Idealize.ShloMosaic.ValueIdx

/-- No entry of an array of index words is negative. -/
def NonNeg {s : Shape} (x : Ind s) : Prop := ∀ i, 0 ≤ (x i).toInt

/-- The distances and the last choice before trip `k`: at first every distance is the constant `1e10` and every cloud's choice its point 0. -/
def sampled (p : Num S8x16384x3) : ℕ → Num S8x16384 × Ind S8
  | 0 => (fun _ => constant (F := Ideal) S_ .f32 0x501502F9#32 (fun a => a.elim0), fun _ => 0#32)
  | k + 1 => (newDist p (sampled p k).1 (sampled p k).2, furthest (newDist p (sampled p k).1 (sampled p k).2))

/-- The table before trip `k`: the choices of the trips so far, and zero in the entries to come. -/
def chosen (p : Num S8x16384x3) (k : ℕ) : Ind S8x256 := fun i => if (i 1).val < k then (sampled p (i 1).val).2 (ix1 (i 0)) else 0#32

/-- The greatest entry's least index is the furthest point, and is not negative. -/
theorem furthest_eq (d : Num S8x16384) (j : S8.Idx) :
    (Host.argReduce (Cert.KernelIdeal.reducer_argmax_f32_i32 (F := Ideal)) d (iotaInDim S8x16384 32 1) (constant (F := Ideal) S_ .f32 0xFF800000#32) (fun _ => 0#32)
        reducesTo_S8x16384_S8_d1 h_S_ j).2 = furthest d j ∧ 0 ≤ (furthest d j).toInt :=
  have h := argmax_eq reducesTo_S8x16384_S8_d1 h_S_ bcast_S8_S8x1_0 bcast_S8x1_S8x16384_0_1 d j
  ⟨h.1, h.2.1⟩

theorem zero_nonneg : 0 ≤ (0#32 : BitVec 32).toInt := by decide

theorem sampled_last (p : Num S8x16384x3) (k : ℕ) : (sampled p (k + 1)).2 = furthest (newDist p (sampled p k).1 (sampled p k).2) := by rw [sampled]

theorem sampled_dist (p : Num S8x16384x3) (k : ℕ) : (sampled p (k + 1)).1 = newDist p (sampled p k).1 (sampled p k).2 := by rw [sampled]

theorem sampled_nonneg (p : Num S8x16384x3) (k : ℕ) : NonNeg (sampled p k).2 := by
  intro j
  cases k with
  | zero => rw [sampled]; exact zero_nonneg
  | succ k => rw [sampled_last]; exact (furthest_eq _ j).2

theorem chosen_nonneg (p : Num S8x16384x3) (k : ℕ) : NonNeg (chosen p k) := fun i => by
  unfold chosen
  split
  · exact sampled_nonneg p _ _
  · exact zero_nonneg

/-- Before the first trip the table is zero. -/
theorem chosen_zero (p : Num S8x16384x3) : chosen p 0 = fun _ => 0#32 := funext fun i => if_neg (Nat.not_lt_zero _)

/-- Trip `k` writes its choice in entry `k` of every cloud. -/
theorem chosen_succ (p : Num S8x16384x3) (k : ℕ) (i : S8x256.Idx) :
    chosen p (k + 1) i = if (i 1).val = k then (sampled p k).2 (ix1 (i 0)) else chosen p k i := by
  unfold chosen
  by_cases h : (i 1).val = k
  · rw [if_pos h, if_pos (by omega), h]
  · rw [if_neg h]
    by_cases h' : (i 1).val < k
    · rw [if_pos h', if_pos (by omega)]
    · rw [if_neg h', if_neg (by omega)]

/-- A trip's number, as a word read signed. -/
theorem trip_toInt (k : ℕ) (h : k < 2147483648) : (Scf.iv 0#32 1#32 k).toInt = (k : ℤ) := by
  have hn := WordArith.toNat_iv_zero_one k (by omega)
  rw [BitVec.toInt_eq_toNat_of_lt (by omega), hn]

end Cert.Value

end
-- ==== Proof.KernelStages.lean ====
/-
  WHAT THE KERNEL'S STRETCHES LEAVE: each stretch of host operations, read at the buffers that later stretches use, is a
  stage of `Meaning.lean` at the buffers it read, when the index words it reads are not negative: each index is wrapped, the
  size being added to a negative one, before it is used.
-/
module

public import proofs.«01_k».proof.Proof.KernelIdealRun
public import proofs.«01_k».proof.Proof.Meaning
public import proofs.«01_k».proof.Proof.Words
public import proofs.«01_k».proof.Proof.Corner
public import proofs.«01_k».proof.Proof.TopK
public import proofs.«01_k».proof.Proof.Sampling

@[expose] public section

noncomputable section

namespace Cert.Value.Kernel

open Cert.KernelIdeal Cert.KernelIdeal.Gen Cert.KernelIdeal.Run Cert.Value
open Idealize.ShloMosaic Idealize.ShloMosaic.TcCoe Idealize.ShloMosaic.StableHlo Idealize.SL

abbrev Val : Type := Valuation τ sig (Elt Ideal)

variable (V : Val)

theorem cloud_nonneg : NonNeg cloud := fun i => iota_nonneg S8 0 (by decide) i

theorem bcast_nonneg {s t : Shape} {dims : Fin s.rank → Fin t.rank} (h : s.BroadcastsInDim t dims) {x : Ind s} (hx : NonNeg x) : NonNeg (broadcastInDim t dims h x) :=
  fun _ => hx _

/-- A wrapped index that is not negative is the index, the zero compared with being broadcast. -/
theorem wrap_zero {s : Shape} (x n : Ind s) (h : S_.BroadcastsInDim s ![]) (hx : NonNeg x) :
    select (cmpi .slt x (broadcastInDim s ![] h (constantI S_ 32 0#32))) (addi x n) x = x := wrap_eq x n _ (fun _ => rfl) hx

/-! ## After the loop -/

/-- The first stretch after the loop in three: up to the centres, up to the three minima, and the rest. -/
abbrev ops1a : List (HloOp τ sig (Elt Ideal)) := List.take 20 hostOps0_1
abbrev ops1b : List (HloOp τ sig (Elt Ideal)) := List.take 15 (List.drop 20 hostOps0_1)
abbrev ops1c : List (HloOp τ sig (Elt Ideal)) := List.drop 35 hostOps0_1

theorem post1_split : after hostOps0_1 V = after ops1c (after ops1b (after ops1a V)) := by
  rw [← after_append, ← after_append]
  rfl

theorem post1a_centres (h0 : V (Proc.devRef .tc main_v0) = cloud) (ht : NonNeg (V (Proc.devRef .tc main_v4_3))) :
    after ops1a V (Proc.devRef .tc main_v20) = centres (V (Proc.devRef .tc main_arg0)) (V (Proc.devRef .tc main_v4_3)) := by
  after_reads_simp [readPieces]
  rw [h0, wrap_zero (s := S8x256) (V (Proc.devRef .tc main_v4_3)) _ _ ht, wrap_zero (s := S8x1) (broadcastInDim S8x1 ![0] bcast_S8_S8x1_0 cloud) _ _ (bcast_nonneg _ cloud_nonneg)]
  rfl

theorem post1b_keep : after ops1b V (Proc.devRef .tc main_v20) = V (Proc.devRef .tc main_v20) := by after_reads_simp
theorem post1c_keep : after ops1c V (Proc.devRef .tc main_v20) = V (Proc.devRef .tc main_v20) := by after_reads_simp

/-- One coordinate's least value. -/
def axisMin (c : Num S8x256x3) (off : Fin 3 → ℕ) (h : S8x256x3.Slices off S8x256x1) : Num S_ :=
  Host.reduce (FloatOps.minimumf (F := Ideal) (φ := .f32)) (shapeCast S8x256 (extractStridedSlice S8x256x1 off c h) shapeCasts_S8x256x1_S8x256)
    (constant (F := Ideal) S_ .f32 0x7F800000#32) reducesTo_S8x256_S_d0_1 h_S_

theorem post1b_min0 : after ops1b V (Proc.devRef .tc main_v30) = broadcastInDim S1 ![] bcast_S_S1 (axisMin (V (Proc.devRef .tc main_v20)) ![0, 0, 0] slices_S8x256x3_S8x256x1_0_0_0) := by
  after_reads_simp
  rfl
theorem post1b_min1 : after ops1b V (Proc.devRef .tc main_v31) = broadcastInDim S1 ![] bcast_S_S1 (axisMin (V (Proc.devRef .tc main_v20)) ![0, 0, 1] slices_S8x256x3_S8x256x1_0_0_1) := by
  after_reads_simp
  rfl
theorem post1b_min2 : after ops1b V (Proc.devRef .tc main_v32) = broadcastInDim S1 ![] bcast_S_S1 (axisMin (V (Proc.devRef .tc main_v20)) ![0, 0, 2] slices_S8x256x3_S8x256x1_0_0_2) := by
  after_reads_simp
  rfl

theorem post1c_spread : after ops1c V (Proc.devRef .tc main_v38) = spread (V (Proc.devRef .tc main_v20))
    (concatenate S3 0 [⟨S1, (V (Proc.devRef .tc main_v30) : Num S1)⟩, ⟨S1, (V (Proc.devRef .tc main_v31) : Num S1)⟩, ⟨S1, (V (Proc.devRef .tc main_v32) : Num S1)⟩] concatenates_S1_S1_S1_S3_d0) := by
  after_reads_simp
  rfl

theorem post2_order : after hostOps0_2 V (Proc.devRef .tc main_v39) = order (V (Proc.devRef .tc main_v38)) := by
  after_reads_simp
  rfl

/-- The last stretch before the copy in two: up to the squared distances, and the rest. -/
abbrev ops3a : List (HloOp τ sig (Elt Ideal)) := List.take 36 hostOps0_3
abbrev ops3b : List (HloOp τ sig (Elt Ideal)) := List.drop 36 hostOps0_3

theorem post3_split : after hostOps0_3 V = after ops3b (after ops3a V) := by
  rw [← after_append]
  rfl

theorem post3a_reorder (h0 : V (Proc.devRef .tc main_v0) = cloud) (ho : NonNeg (V (Proc.devRef .tc main_v39))) :
    after ops3a V (Proc.devRef .tc main_v55) = reorder (V (Proc.devRef .tc main_v20)) (V (Proc.devRef .tc main_v39)) := by
  after_reads_simp [readPieces]
  rw [h0, wrap_zero (s := S8x256) (V (Proc.devRef .tc main_v39)) _ _ ho, wrap_zero (s := S8x1) (broadcastInDim S8x1 ![0] bcast_S8_S8x1_0 cloud) _ _ (bcast_nonneg _ cloud_nonneg)]
  rfl

theorem post3a_dist2 (h0 : V (Proc.devRef .tc main_v0) = cloud) (ho : NonNeg (V (Proc.devRef .tc main_v39))) :
    after ops3a V (Proc.devRef .tc main_v68) = dist2 (V (Proc.devRef .tc main_arg0)) (reorder (V (Proc.devRef .tc main_v20)) (V (Proc.devRef .tc main_v39))) := by
  after_reads_simp [readPieces]
  rw [h0, wrap_zero (s := S8x256) (V (Proc.devRef .tc main_v39)) _ _ ho, wrap_zero (s := S8x1) (broadcastInDim S8x1 ![0] bcast_S8_S8x1_0 cloud) _ _ (bcast_nonneg _ cloud_nonneg)]
  rfl

/-- What the last stretch takes for the nearest points: the greatest 32 of the distances' negations. -/
abbrev topIdx (d : Num S8x256x16384) : Ind S8x256x32 :=
  (Host.topK S8x256x32 2 (FloatOps.cmpfTotal (F := Ideal) (φ := .f32) .gt) (Host.negf (F := Ideal) d) sliceFits_S8x256x16384_S8x256x32).2

theorem post3b_result (h0 : V (Proc.devRef .tc main_v0) = cloud) (hn : NonNeg (topIdx (V (Proc.devRef .tc main_v68)))) :
    after ops3b V (Proc.devRef .tc main_v90) = result (V (Proc.devRef .tc main_arg0)) (V (Proc.devRef .tc main_v55)) (topIdx (V (Proc.devRef .tc main_v68))) := by
  after_reads_simp [readPieces]
  rw [h0, wrap_zero (s := S8x256x32) (topIdx (V (Proc.devRef .tc main_v68))) _ _ hn, wrap_zero (s := S8x1x1) (broadcastInDim S8x1x1 ![0] bcast_S8_S8x1x1_0 cloud) _ _ (bcast_nonneg _ cloud_nonneg)]
  rfl

/-! ## Before the loop and in a trip -/

theorem pre_cloud : after hostOps0 V (Proc.devRef .tc main_v0) = cloud := by
  after_reads_simp
theorem pre_points : after hostOps0 V (Proc.devRef .tc main_v4_0) = V (Proc.devRef .tc main_arg0) := by
  after_reads_simp [id_eq]
theorem pre_col : after hostOps0 V (Proc.devRef .tc main_v4_2) = (fun _ => 0#32) := by
  after_reads_simp
  rfl
theorem pre_table : after hostOps0 V (Proc.devRef .tc main_v4_3) = (fun _ => 0#32) := by
  after_reads_simp
  rfl
theorem pre_dist : after hostOps0 V (Proc.devRef .tc main_v4_4) = (fun _ => (constant (F := Ideal) S_ .f32 0x501502F9#32) (fun a => a.elim0)) := by
  after_reads_simp
  rfl
theorem pre_last : after hostOps0 V (Proc.devRef .tc main_v4_5) = (fun _ => 0#32) := by
  after_reads_simp
  rfl

theorem trip0_next : after while0Ops0 V (Proc.devRef .tc main_while0b_v92) = addi (V (Proc.devRef .tc main_v4_2)) (constantI S_ 32 1#32) := by
  after_reads_simp

theorem trip0_table (hk : NonNeg (V (Proc.devRef .tc main_v4_2))) : after while0Ops0 V (Proc.devRef .tc main_while0b_v98) =
    Host.scatter scatter_S8x256_S1_S8_0_1_1_0 (fun _ b => b) (V (Proc.devRef .tc main_v4_3)) (broadcastInDim S1 ![] bcast_S_S1 (V (Proc.devRef .tc main_v4_2))) (V (Proc.devRef .tc main_v4_5)) := by
  after_reads_simp
  rw [wrap_eq (s := S_) (V (Proc.devRef .tc main_v4_2)) _ (constantI S_ 32 0#32) (fun _ => rfl) hk]
  rfl

theorem trip0_dist (hl : NonNeg (V (Proc.devRef .tc main_v4_5))) : after while0Ops0 V (Proc.devRef .tc main_while0b_v119) =
    newDist (V (Proc.devRef .tc main_v4_0)) (V (Proc.devRef .tc main_v4_4)) (V (Proc.devRef .tc main_v4_5)) := by
  after_reads_simp [readPieces]
  rw [wrap_zero (s := S8) (V (Proc.devRef .tc main_v4_5)) _ _ hl, wrap_zero (s := S8) (iotaInDim S8 32 0) _ _ cloud_nonneg]
  rfl

theorem trip1_last : after while0Ops0_1 V (Proc.devRef .tc main_while0b_v120) =
    fun j => (Host.argReduce (reducer_argmax_f32_i32 (F := Ideal)) (V (Proc.devRef .tc main_while0b_v119)) (iotaInDim S8x16384 32 1) (constant (F := Ideal) S_ .f32 0xFF800000#32) (constantI S_ 32 0#32)
      reducesTo_S8x16384_S8_d1 h_S_ j).2 := by
  after_reads_simp
  rfl

theorem trip2_col : after while0Ops0_2 V (Proc.devRef .tc main_v4_2) = V (Proc.devRef .tc main_while0b_v92) := by after_reads_simp [id_eq]
theorem trip2_table : after while0Ops0_2 V (Proc.devRef .tc main_v4_3) = V (Proc.devRef .tc main_while0b_v98) := by after_reads_simp [id_eq]
theorem trip2_dist : after while0Ops0_2 V (Proc.devRef .tc main_v4_4) = V (Proc.devRef .tc main_while0b_v119) := by after_reads_simp [id_eq]
theorem trip2_last : after while0Ops0_2 V (Proc.devRef .tc main_v4_5) = V (Proc.devRef .tc main_while0b_v120) := by after_reads_simp [id_eq]

end Cert.Value.Kernel

end
-- ==== Proof.CornerJoin.lean ====
/-
  THE CORNER, which the kernel takes one axis at a time and joins: the join of the three minima is the minimum over both
  leading axes at once.
-/
module

public import proofs.«01_k».proof.Proof.KernelStages

@[expose] public section

noncomputable section

namespace Cert.Value.Kernel

open Cert.KernelIdeal Cert.KernelIdeal.Gen Cert.Value
open Idealize.ShloMosaic

/-- One axis's minimum is the corner's entry on that axis. -/
theorem axisMin_eq (c : Num S8x256x3) (k : Fin 3) (off : Fin 3 → ℕ) (hoff : off = ![0, 0, k.val]) (h : S8x256x3.Slices off S8x256x1) (j : S_.Idx) (q : S3.Idx) (hq : (q 0).val = k.val) :
    axisMin c off h j = corner c q :=
  axis_min _ _ _ k off hoff h _ c j q hq

/-- A position of an array of three. -/
abbrev pos (k : Fin 3) : S3.Idx := fun a => match a with | ⟨0, _⟩ => k
/-- The only position of an array of one. -/
abbrev only : S1.Idx := fun a => match a with | ⟨0, _⟩ => (0 : Fin 1)

/-- Three arrays of one entry, joined, and read at each of the three positions. -/
theorem join_at (x y z : Num S1) (h : Shape.Concatenates [S1, S1, S1] S3 0) :
    concatenate S3 0 [⟨S1, x⟩, ⟨S1, y⟩, ⟨S1, z⟩] h (pos 0) = x only
      ∧ concatenate S3 0 [⟨S1, x⟩, ⟨S1, y⟩, ⟨S1, z⟩] h (pos 1) = y only
      ∧ concatenate S3 0 [⟨S1, x⟩, ⟨S1, y⟩, ⟨S1, z⟩] h (pos 2) = z only := by
  refine ⟨congrArg x ?_, congrArg y ?_, congrArg z ?_⟩ <;> exact funext fun a => match a with | ⟨0, _⟩ => Subsingleton.elim (α := Fin 1) _ _

theorem corner_join (c : Num S8x256x3) :
    concatenate S3 0
      [⟨S1, (broadcastInDim S1 ![] bcast_S_S1 (axisMin c ![0, 0, 0] slices_S8x256x3_S8x256x1_0_0_0) : Num S1)⟩,
        ⟨S1, (broadcastInDim S1 ![] bcast_S_S1 (axisMin c ![0, 0, 1] slices_S8x256x3_S8x256x1_0_0_1) : Num S1)⟩,
        ⟨S1, (broadcastInDim S1 ![] bcast_S_S1 (axisMin c ![0, 0, 2] slices_S8x256x3_S8x256x1_0_0_2) : Num S1)⟩] concatenates_S1_S1_S1_S3_d0
      = corner c := by
  funext q
  obtain ⟨k, rfl⟩ : ∃ k : Fin 3, q = pos k := ⟨q 0, funext fun a => match a with | ⟨0, _⟩ => rfl⟩
  obtain ⟨e0, e1, e2⟩ := join_at (broadcastInDim S1 ![] bcast_S_S1 (axisMin c ![0, 0, 0] slices_S8x256x3_S8x256x1_0_0_0))
    (broadcastInDim S1 ![] bcast_S_S1 (axisMin c ![0, 0, 1] slices_S8x256x3_S8x256x1_0_0_1))
    (broadcastInDim S1 ![] bcast_S_S1 (axisMin c ![0, 0, 2] slices_S8x256x3_S8x256x1_0_0_2)) concatenates_S1_S1_S1_S3_d0
  match k with
  | ⟨0, _⟩ => exact e0.trans (axisMin_eq c 0 _ rfl slices_S8x256x3_S8x256x1_0_0_0 _ _ rfl)
  | ⟨1, _⟩ => exact e1.trans (axisMin_eq c 1 _ rfl slices_S8x256x3_S8x256x1_0_0_1 _ _ rfl)
  | ⟨2, _⟩ => exact e2.trans (axisMin_eq c 2 _ rfl slices_S8x256x3_S8x256x1_0_0_2 _ _ rfl)

end Cert.Value.Kernel

end
-- ==== Proof.KernelLoop.lean ====
/-
  THE KERNEL'S LOOP: before trip `k` its buffers hold the distances, the last choice and the table of `k` trips of furthest
  point sampling. Then what is in the copy region's operand when the region is entered.
-/
module

public import proofs.«01_k».proof.Proof.KernelStages
public import proofs.«01_k».proof.Proof.CornerJoin
public import Idealize.ShloMosaic.Lib.Routing.OpsOne

@[expose] public section

noncomputable section

namespace Cert.Value.Kernel

open Cert.KernelIdeal Cert.KernelIdeal.Gen Cert.KernelIdeal.Run Cert.Value
open Idealize.ShloMosaic Idealize.ShloMosaic.TcCoe Idealize.ShloMosaic.StableHlo Idealize.ShloMosaic.ValueIdx Idealize.SL

/-- A column written at column `k` of the table. -/
theorem col_write (x : Ind S8x256) (l : Ind S8) (k : ℕ) (hk : k < 256) (w : Ind S_) (hw : w = fun _ => Scf.iv 0#32 1#32 k) (i : S8x256.Idx) :
    Host.scatter scatter_S8x256_S1_S8_0_1_1_0 (fun _ b => b) x (broadcastInDim S1 ![] bcast_S_S1 w) l i = if (i 1).val = k then l (ix1 (i 0)) else x i := by
  subst hw
  obtain ⟨a, b, rfl⟩ : ∃ (a : Fin 8) (b : Fin 256), i = ix2 a b := ⟨i 0, i 1, eq_ix2 (n0 := 8) (n1 := 256) i⟩
  have h := Routing.scatter_col_signed (A := 8) (N := 256) scatter_S8x256_S1_S8_0_1_1_0 rfl rfl x (broadcastInDim S1 ![] bcast_S_S1 (fun _ => Scf.iv 0#32 1#32 k : Ind S_)) l
    ⟨k, hk⟩ (trip_toInt k (by omega)) a b
  refine h.trans ?_
  by_cases hb : b.val = k
  · rw [if_pos (Fin.ext hb)]; exact (if_pos hb).symm
  · rw [if_neg fun e => hb (congrArg Fin.val e)]; exact (if_neg hb).symm

variable (m : (ℓ : Loc nD τ sig) → Buf (Elt Ideal) ℓ)

/-- The points, as launched. -/
abbrev points (c : Dev nD) : Num S8x16384x3 := m ((c.tc : Thread nD τ).loc main_arg0)

/-- The loop's invariant. -/
structure Inv (V : Val) (p : Num S8x16384x3) (k : ℕ) : Prop where
  cloud : V (Proc.devRef .tc main_v0) = cloud
  points : V (Proc.devRef .tc main_v4_0) = p
  col : V (Proc.devRef .tc main_v4_2) = fun _ => Scf.iv 0#32 1#32 k
  table : V (Proc.devRef .tc main_v4_3) = chosen p k
  dist : V (Proc.devRef .tc main_v4_4) = (sampled p k).1
  last : V (Proc.devRef .tc main_v4_5) = (sampled p k).2

/-- It holds before the first trip -/
theorem inv_zero (c : Dev nD) : Inv (atK m 0 c) (points m c) 0 where
  cloud := pre_cloud _
  points := (pre_points _).trans rfl
  col := (pre_col _).trans (by rw [Scf.iv_zero])
  table := (pre_table _).trans (by rw [chosen_zero]; rfl)
  dist := (pre_dist _).trans rfl
  last := (pre_last _).trans rfl

theorem trip_keep_cloud (V : Val) : after while0Ops0_2 (after while0Ops0_1 (after while0Ops0 V)) (Proc.devRef .tc main_v0) = V (Proc.devRef .tc main_v0) := by
  after_reads_simp
theorem trip_keep_points (V : Val) : after while0Ops0_2 (after while0Ops0_1 (after while0Ops0 V)) (Proc.devRef .tc main_v4_0) = V (Proc.devRef .tc main_v4_0) := by
  after_reads_simp
theorem trip1_keep_next (V : Val) : after while0Ops0_1 V (Proc.devRef .tc main_while0b_v92) = V (Proc.devRef .tc main_while0b_v92) := by after_reads_simp
theorem trip1_keep_table (V : Val) : after while0Ops0_1 V (Proc.devRef .tc main_while0b_v98) = V (Proc.devRef .tc main_while0b_v98) := by after_reads_simp
theorem trip1_keep_dist (V : Val) : after while0Ops0_1 V (Proc.devRef .tc main_while0b_v119) = V (Proc.devRef .tc main_while0b_v119) := by after_reads_simp

/-- and a trip keeps it. -/
theorem inv_succ (V : Val) (p : Num S8x16384x3) (k : ℕ) (hk : k < 256) (hV : Inv V p k) :
    Inv (after while0Ops0_2 (after while0Ops0_1 (after while0Ops0 V))) p (k + 1) := by
  have hl : NonNeg (V (Proc.devRef .tc main_v4_5) : Ind S8) := by rw [hV.last]; exact sampled_nonneg p k
  have hd : after while0Ops0 V (Proc.devRef .tc main_while0b_v119) = (sampled p (k + 1)).1 := by
    rw [trip0_dist V hl, hV.points, hV.dist, hV.last, sampled_dist]
  refine ⟨(trip_keep_cloud V).trans hV.cloud, (trip_keep_points V).trans hV.points, ?_, ?_, ?_, ?_⟩
  · rw [trip2_col, trip1_keep_next, trip0_next, hV.col, Scf.iv_succ]
    rfl
  · have hc : NonNeg (V (Proc.devRef .tc main_v4_2) : Ind S_) := by
      rw [hV.col]
      intro _
      rw [trip_toInt k (by omega)]
      omega
    rw [trip2_table, trip1_keep_table, trip0_table V hc, hV.table, hV.last]
    funext i
    exact (col_write _ _ k hk _ hV.col i).trans (chosen_succ p k i).symm
  · rw [trip2_dist, trip1_keep_dist, hd]
  · rw [trip2_last, trip1_last, hd, sampled_last, ← sampled_dist]
    funext j
    exact (furthest_eq _ j).1

theorem inv_cond (V : Val) (p : Num S8x16384x3) (k : ℕ) (hV : Inv V p k) : Inv (after condOps V) p k where
  cloud := (keep_cond main_v0 (by decide) V).trans hV.cloud
  points := (keep_cond main_v4_0 (by decide) V).trans hV.points
  col := (keep_cond main_v4_2 (by decide) V).trans hV.col
  table := (keep_cond main_v4_3 (by decide) V).trans hV.table
  dist := (keep_cond main_v4_4 (by decide) V).trans hV.dist
  last := (keep_cond main_v4_5 (by decide) V).trans hV.last

/-- So it holds before every trip. -/
theorem inv (c : Dev nD) : ∀ k, k ≤ 256 → Inv (atK m k c) (points m c) k
  | 0, _ => inv_zero m c
  | k + 1, h => by
    rw [atK_succ]
    exact inv_succ _ _ k (by omega) (inv_cond _ _ k (inv c k (by omega)))

/-! ## The stretches after the loop -/

theorem post1_keep_cloud (V : Val) : after hostOps0_1 V (Proc.devRef .tc main_v0) = V (Proc.devRef .tc main_v0) := by after_reads_simp
theorem post2_keep_cloud (V : Val) : after hostOps0_2 V (Proc.devRef .tc main_v0) = V (Proc.devRef .tc main_v0) := by after_reads_simp
theorem post2_keep_centres (V : Val) : after hostOps0_2 V (Proc.devRef .tc main_v20) = V (Proc.devRef .tc main_v20) := by after_reads_simp
theorem post3a_keep_cloud (V : Val) : after ops3a V (Proc.devRef .tc main_v0) = V (Proc.devRef .tc main_v0) := by after_reads_simp
theorem post3a_keep_points (V : Val) : after ops3a V (Proc.devRef .tc main_arg0) = V (Proc.devRef .tc main_arg0) := by after_reads_simp

/-- The first stretch leaves the centres -/
theorem post1_centres (V : Val) (h0 : V (Proc.devRef .tc main_v0) = cloud) (ht : NonNeg (V (Proc.devRef .tc main_v4_3) : Ind S8x256)) :
    after hostOps0_1 V (Proc.devRef .tc main_v20) = centres (V (Proc.devRef .tc main_arg0)) (V (Proc.devRef .tc main_v4_3)) := by
  rw [post1_split, post1c_keep, post1b_keep, post1a_centres V h0 ht]

/-- and their squared distances from the corner. -/
theorem post1_spread (V : Val) (h0 : V (Proc.devRef .tc main_v0) = cloud) (ht : NonNeg (V (Proc.devRef .tc main_v4_3) : Ind S8x256)) :
    after hostOps0_1 V (Proc.devRef .tc main_v38) = spread (centres (V (Proc.devRef .tc main_arg0)) (V (Proc.devRef .tc main_v4_3)))
      (corner (centres (V (Proc.devRef .tc main_arg0)) (V (Proc.devRef .tc main_v4_3)))) := by
  rw [post1_split, post1c_spread, post1b_keep, post1b_min0, post1b_min1, post1b_min2, post1a_centres V h0 ht, corner_join]

/-- The greatest 32 of the negated distances are the nearest points, and their indices are not negative. -/
theorem topIdx_eq (d : Num S8x256x16384) : topIdx d = nearest (ranked d) :=
  topK_neg sliceFits_S8x256x16384_S8x256x32 _ d

theorem nearest_nonneg (d : Num S8x256x16384) : NonNeg (nearest (ranked d)) := fun _ => argsort_nonneg _ 2 (by decide) (by decide) _ d _

theorem order_nonneg (s : Num S8x256) : NonNeg (order s) := fun _ => argsort_nonneg _ 1 (by decide) (by decide) _ s _

/-- THE COPY REGION'S OPERAND, when the region is entered: the groups of the table of 256 choices. -/
theorem value (c : Dev nD) : beforeCopy m c (Proc.devRef .tc main_v90) = grouped (points m c) (chosen (points m c) 256) := by
  rw [beforeCopy_eq]
  have hI := inv_cond _ _ _ (inv m c 256 le_rfl)
  have ha : after condOps (atK m 256 c) (Proc.devRef .tc main_arg0) = points m c := (keep_cond main_arg0 (by decide) _).trans (atK_arg0 m c 256)
  generalize after condOps (atK m 256 c) = V at hI ha ⊢
  have ht : NonNeg (V (Proc.devRef .tc main_v4_3) : Ind S8x256) := by rw [hI.table]; exact chosen_nonneg _ _
  generalize hV1 : after hostOps0_1 V = V1
  have a1 : V1 (Proc.devRef .tc main_arg0) = points m c := by rw [← hV1, keep_post1, ha]
  have c1 : V1 (Proc.devRef .tc main_v0) = cloud := by rw [← hV1, post1_keep_cloud, hI.cloud]
  have x1 : V1 (Proc.devRef .tc main_v20) = centres (points m c) (chosen (points m c) 256) := by rw [← hV1, post1_centres V hI.cloud ht, ha, hI.table]
  have s1 : V1 (Proc.devRef .tc main_v38) = spread (centres (points m c) (chosen (points m c) 256)) (corner (centres (points m c) (chosen (points m c) 256))) := by
    rw [← hV1, post1_spread V hI.cloud ht, ha, hI.table]
  generalize hV2 : after hostOps0_2 V1 = V2
  have a2 : V2 (Proc.devRef .tc main_arg0) = points m c := by rw [← hV2, keep_post2, a1]
  have c2 : V2 (Proc.devRef .tc main_v0) = cloud := by rw [← hV2, post2_keep_cloud, c1]
  have x2 : V2 (Proc.devRef .tc main_v20) = centres (points m c) (chosen (points m c) 256) := by rw [← hV2, post2_keep_centres, x1]
  have o2 : V2 (Proc.devRef .tc main_v39) = order (spread (centres (points m c) (chosen (points m c) 256)) (corner (centres (points m c) (chosen (points m c) 256)))) := by
    rw [← hV2, post2_order, s1]
  have ho : NonNeg (V2 (Proc.devRef .tc main_v39) : Ind S8x256) := by rw [o2]; exact order_nonneg _
  rw [post3_split]
  generalize hV3 : after ops3a V2 = V3
  have a3 : V3 (Proc.devRef .tc main_arg0) = points m c := by rw [← hV3, post3a_keep_points, a2]
  have c3 : V3 (Proc.devRef .tc main_v0) = cloud := by rw [← hV3, post3a_keep_cloud, c2]
  have r3 : V3 (Proc.devRef .tc main_v55) = arranged (points m c) (chosen (points m c) 256) := by rw [← hV3, post3a_reorder V2 c2 ho, x2, o2]; rfl
  have d3 : V3 (Proc.devRef .tc main_v68) = dist2 (points m c) (arranged (points m c) (chosen (points m c) 256)) := by rw [← hV3, post3a_dist2 V2 c2 ho, x2, o2, a2]; rfl
  have hn : NonNeg (topIdx (V3 (Proc.devRef .tc main_v68))) := by rw [d3, topIdx_eq]; exact nearest_nonneg _
  rw [post3b_result V3 c3 hn, a3, r3, d3, topIdx_eq]
  rfl

end Cert.Value.Kernel

end
-- ==== Proof.ReferenceRun.lean ====
/-
  THE RUN of `ReferenceIdeal`: one stretch of host operations, a counted host loop of 256 trips, and five stretches after it.
  The stretches as lists, `main` as their chain, the loop's condition and counter; then `run_fold`: every weakly fair
  execution terminates with every unscoped buffer at the fold of the operations' results. `run` says the same of the result
  and of the argument, and that the semaphore counters end at zero. (The lists and the chain follow the generated module
  for this program, which stops at the result's composed term.)
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent

@[expose] public section

noncomputable section

namespace Cert.ReferenceIdeal.Run

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 12 host operations of @main, in order. -/
abbrev hostOps0 : List (HloOp τ sig (Elt F)) :=
  [ StableHlo.nullary main_cst (constant S_ .f32 0x501502F9#32),
    StableHlo.unary main_cst main_v0 (broadcastInDim S8x16384 ![] bcast_S_S8x16384 : (⟨S_, .f32⟩ : BufTy).Contents (Elt F) → (⟨S8x16384, .f32⟩ : BufTy).Contents (Elt F)),
    StableHlo.nullary main_c (constantI S_ 32 0#32),
    StableHlo.unary main_c main_v1 (broadcastInDim S8 ![] bcast_S_S8 : (⟨S_, .i32⟩ : BufTy).Contents (Elt F) → (⟨S8, .i32⟩ : BufTy).Contents (Elt F)),
    StableHlo.nullary main_c_0 (constantI S_ 32 0#32),
    StableHlo.unary main_c_0 main_v2 (broadcastInDim S256x8 ![] bcast_S_S256x8 : (⟨S_, .i32⟩ : BufTy).Contents (Elt F) → (⟨S256x8, .i32⟩ : BufTy).Contents (Elt F)),
    StableHlo.nullary main_c_1 (constantI S_ 32 0#32),
    StableHlo.unary main_arg0 main_v3_0 id,
    StableHlo.unary main_c_1 main_v3_1 id,
    StableHlo.unary main_v0 main_v3_2 id,
    StableHlo.unary main_v1 main_v3_3 id,
    StableHlo.unary main_v2 main_v3_4 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 16 host operations of @main, in order. -/
abbrev hostOps0_1 : List (HloOp τ sig (Elt F)) :=
  [ StableHlo.unary main_v3_4 main_v4 ((transpose S8x256 [1, 0] · transposes_S256x8_S8x256_1_0) : (⟨S256x8, .i32⟩ : BufTy).Contents (Elt F) → (⟨S8x256, .i32⟩ : BufTy).Contents (Elt F)),
    StableHlo.nullary main_v5 (iotaInDim S8 32 0),
    StableHlo.unary main_v5 main_v6 (broadcastInDim S8x1 ![0] bcast_S8_S8x1_0 : (⟨S8, .i32⟩ : BufTy).Contents (Elt F) → (⟨S8x1, .i32⟩ : BufTy).Contents (Elt F)),
    StableHlo.unary main_v6 main_v7 (broadcastInDim S8x256 ![0, 1] bcast_S8x1_S8x256_0_1 : (⟨S8x1, .i32⟩ : BufTy).Contents (Elt F) → (⟨S8x256, .i32⟩ : BufTy).Contents (Elt F)),
    StableHlo.unary main_v7 main_v8 (broadcastInDim S8x256x1 ![0, 1] bcast_S8x256_S8x256x1_0_1 : (⟨S8x256, .i32⟩ : BufTy).Contents (Elt F) → (⟨S8x256x1, .i32⟩ : BufTy).Contents (Elt F)),
    StableHlo.unary main_v4 main_v9 (broadcastInDim S8x256x1 ![0, 1] bcast_S8x256_S8x256x1_0_1 : (⟨S8x256, .i32⟩ : BufTy).Contents (Elt F) → (⟨S8x256x1, .i32⟩ : BufTy).Contents (Elt F)),
    StableHlo.binary main_v8 main_v9 main_v10 ((fun a b => concatenate S8x256x2 2 [⟨S8x256x1, a⟩, ⟨S8x256x1, b⟩] concatenates_S8x256x1_S8x256x1_S8x256x2_d2) : (⟨S8x256x1, .i32⟩ : BufTy).Contents (Elt F) → (⟨S8x256x1, .i32⟩ : BufTy).Contents (Elt F) → (⟨S8x256x2, .i32⟩ : BufTy).Contents (Elt F)),
    StableHlo.binary main_arg0 main_v10 main_v11 ((fun x i => Host.gather gather_S8x16384x3_S8x256x2_S8x256x3_2_01_n_n_01_2_113 x i) : (⟨S8x16384x3, .f32⟩ : BufTy).Contents (Elt F) → (⟨S8x256x2, .i32⟩ : BufTy).Contents (Elt F) → (⟨S8x256x3, .f32⟩ : BufTy).Contents (Elt F)),
    StableHlo.nullary main_cst_2 (constant S_ .f32 0x7F800000#32),
    StableHlo.binary main_v11 main_cst_2 main_v12 ((fun x v => Host.reduce FloatOps.minimumf x v reducesTo_S8x256x3_S3_d0_1 h_S_) : (⟨S8x256x3, .f32⟩ : BufTy).Contents (Elt F) → (⟨S_, .f32⟩ : BufTy).Contents (Elt F) → (⟨S3, .f32⟩ : BufTy).Contents (Elt F)),
    StableHlo.unary main_v12 main_v13 (broadcastInDim S1x1x3 ![2] bcast_S3_S1x1x3_2 : (⟨S3, .f32⟩ : BufTy).Contents (Elt F) → (⟨S1x1x3, .f32⟩ : BufTy).Contents (Elt F)),
    StableHlo.unary main_v13 main_v14 (broadcastInDim S8x256x3 ![0, 1, 2] bcast_S1x1x3_S8x256x3_0_1_2 : (⟨S1x1x3, .f32⟩ : BufTy).Contents (Elt F) → (⟨S8x256x3, .f32⟩ : BufTy).Contents (Elt F)),
    StableHlo.binary main_v11 main_v14 main_v15 (subf : (⟨S8x256x3, .f32⟩ : BufTy).Contents (Elt F) → (⟨S8x256x3, .f32⟩ : BufTy).Contents (Elt F) → (⟨S8x256x3, .f32⟩ : BufTy).Contents (Elt F)),
    StableHlo.binary main_v15 main_v15 main_v16 (mulf : (⟨S8x256x3, .f32⟩ : BufTy).Contents (Elt F) → (⟨S8x256x3, .f32⟩ : BufTy).Contents (Elt F) → (⟨S8x256x3, .f32⟩ : BufTy).Contents (Elt F)),
    StableHlo.nullary main_cst_3 (constant S_ .f32 0x00000000#32),
    StableHlo.binary main_v16 main_cst_3 main_v17 ((fun x v => Host.reduceAdd x v reducesTo_S8x256x3_S8x256_d2 h_S_) : (⟨S8x256x3, .f32⟩ : BufTy).Contents (Elt F) → (⟨S_, .f32⟩ : BufTy).Contents (Elt F) → (⟨S8x256, .f32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub ..⟩
/-- 3 host operations of @argsort (main_call2), in order. -/
abbrev hostOps0_2 : List (HloOp τ sig (Elt F)) :=
  [ StableHlo.TRef.nullary (.of main_call2_v0 : StableHlo.TRef sig ⟨S8x256, .i32⟩) (iotaInDim S8x256 32 1),
    StableHlo.TRef.binary (.of main_v17 : StableHlo.TRef sig ⟨S8x256, .f32⟩) (.of main_call2_v0 : StableHlo.TRef sig ⟨S8x256, .i32⟩) (.of main_call2_v1_0 : StableHlo.TRef sig ⟨S8x256, .f32⟩) (fun x y => (Host.sort2 S8x256 1 comparator_f32_i32_d1 x y).1),
    StableHlo.TRef.binary (.of main_v17 : StableHlo.TRef sig ⟨S8x256, .f32⟩) (.of main_call2_v0 : StableHlo.TRef sig ⟨S8x256, .i32⟩) (.of main_v18 : StableHlo.TRef sig ⟨S8x256, .i32⟩) (fun x y => (Host.sort2 S8x256 1 comparator_f32_i32_d1 x y).2) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.binary_bufs_sub .., StableHlo.binary_bufs_sub ..⟩
/-- 22 host operations of @main, in order. -/
abbrev hostOps0_3 : List (HloOp τ sig (Elt F)) :=
  [ StableHlo.unary main_v5 main_v19 (broadcastInDim S8x1 ![0] bcast_S8_S8x1_0 : (⟨S8, .i32⟩ : BufTy).Contents (Elt F) → (⟨S8x1, .i32⟩ : BufTy).Contents (Elt F)),
    StableHlo.unary main_v19 main_v20 (broadcastInDim S8x256 ![0, 1] bcast_S8x1_S8x256_0_1 : (⟨S8x1, .i32⟩ : BufTy).Contents (Elt F) → (⟨S8x256, .i32⟩ : BufTy).Contents (Elt F)),
    StableHlo.unary main_v20 main_v21 (broadcastInDim S8x256x1 ![0, 1] bcast_S8x256_S8x256x1_0_1 : (⟨S8x256, .i32⟩ : BufTy).Contents (Elt F) → (⟨S8x256x1, .i32⟩ : BufTy).Contents (Elt F)),
    StableHlo.unary main_v18 main_v22 (broadcastInDim S8x256x1 ![0, 1] bcast_S8x256_S8x256x1_0_1 : (⟨S8x256, .i32⟩ : BufTy).Contents (Elt F) → (⟨S8x256x1, .i32⟩ : BufTy).Contents (Elt F)),
    StableHlo.binary main_v21 main_v22 main_v23 ((fun a b => concatenate S8x256x2 2 [⟨S8x256x1, a⟩, ⟨S8x256x1, b⟩] concatenates_S8x256x1_S8x256x1_S8x256x2_d2) : (⟨S8x256x1, .i32⟩ : BufTy).Contents (Elt F) → (⟨S8x256x1, .i32⟩ : BufTy).Contents (Elt F) → (⟨S8x256x2, .i32⟩ : BufTy).Contents (Elt F)),
    StableHlo.binary main_v11 main_v23 main_v24 ((fun x i => Host.gather gather_S8x256x3_S8x256x2_S8x256x3_2_01_n_n_01_2_113 x i) : (⟨S8x256x3, .f32⟩ : BufTy).Contents (Elt F) → (⟨S8x256x2, .i32⟩ : BufTy).Contents (Elt F) → (⟨S8x256x3, .f32⟩ : BufTy).Contents (Elt F)),
    StableHlo.binary main_v24 main_v24 main_v25 (mulf : (⟨S8x256x3, .f32⟩ : BufTy).Contents (Elt F) → (⟨S8x256x3, .f32⟩ : BufTy).Contents (Elt F) → (⟨S8x256x3, .f32⟩ : BufTy).Contents (Elt F)),
    StableHlo.nullary main_cst_4 (constant S_ .f32 0x00000000#32),
    StableHlo.binary main_v25 main_cst_4 main_v26 ((fun x v => Host.reduceAdd x v reducesTo_S8x256x3_S8x256_d2 h_S_) : (⟨S8x256x3, .f32⟩ : BufTy).Contents (Elt F) → (⟨S_, .f32⟩ : BufTy).Contents (Elt F) → (⟨S8x256, .f32⟩ : BufTy).Contents (Elt F)),
    StableHlo.unary main_v26 main_v27 (broadcastInDim S8x256x1 ![0, 1] bcast_S8x256_S8x256x1_0_1 : (⟨S8x256, .f32⟩ : BufTy).Contents (Elt F) → (⟨S8x256x1, .f32⟩ : BufTy).Contents (Elt F)),
    StableHlo.binary main_arg0 main_arg0 main_v28 (mulf : (⟨S8x16384x3, .f32⟩ : BufTy).Contents (Elt F) → (⟨S8x16384x3, .f32⟩ : BufTy).Contents (Elt F) → (⟨S8x16384x3, .f32⟩ : BufTy).Contents (Elt F)),
    StableHlo.nullary main_cst_5 (constant S_ .f32 0x00000000#32),
    StableHlo.binary main_v28 main_cst_5 main_v29 ((fun x v => Host.reduceAdd x v reducesTo_S8x16384x3_S8x16384_d2 h_S_) : (⟨S8x16384x3, .f32⟩ : BufTy).Contents (Elt F) → (⟨S_, .f32⟩ : BufTy).Contents (Elt F) → (⟨S8x16384, .f32⟩ : BufTy).Contents (Elt F)),
    StableHlo.unary main_v29 main_v30 (broadcastInDim S8x1x16384 ![0, 2] bcast_S8x16384_S8x1x16384_0_2 : (⟨S8x16384, .f32⟩ : BufTy).Contents (Elt F) → (⟨S8x1x16384, .f32⟩ : BufTy).Contents (Elt F)),
    StableHlo.unary main_v27 main_v31 (broadcastInDim S8x256x16384 ![0, 1, 2] bcast_S8x256x1_S8x256x16384_0_1_2 : (⟨S8x256x1, .f32⟩ : BufTy).Contents (Elt F) → (⟨S8x256x16384, .f32⟩ : BufTy).Contents (Elt F)),
    StableHlo.unary main_v30 main_v32 (broadcastInDim S8x256x16384 ![0, 1, 2] bcast_S8x1x16384_S8x256x16384_0_1_2 : (⟨S8x1x16384, .f32⟩ : BufTy).Contents (Elt F) → (⟨S8x256x16384, .f32⟩ : BufTy).Contents (Elt F)),
    StableHlo.binary main_v31 main_v32 main_v33 (addf : (⟨S8x256x16384, .f32⟩ : BufTy).Contents (Elt F) → (⟨S8x256x16384, .f32⟩ : BufTy).Contents (Elt F) → (⟨S8x256x16384, .f32⟩ : BufTy).Contents (Elt F)),
    StableHlo.binary main_v24 main_arg0 main_v34 ((fun l r => Host.dotGeneral dot_S8x256x3_S8x16384x3_S8x256x16384_2_2_1_1_0_0 none l r) : (⟨S8x256x3, .f32⟩ : BufTy).Contents (Elt F) → (⟨S8x16384x3, .f32⟩ : BufTy).Contents (Elt F) → (⟨S8x256x16384, .f32⟩ : BufTy).Contents (Elt F)),
    StableHlo.nullary main_cst_6 (constant S_ .f32 0x40000000#32),
    StableHlo.unary main_cst_6 main_v35 (broadcastInDim S8x256x16384 ![] bcast_S_S8x256x16384 : (⟨S_, .f32⟩ : BufTy).Contents (Elt F) → (⟨S8x256x16384, .f32⟩ : BufTy).Contents (Elt F)),
    StableHlo.binary main_v35 main_v34 main_v36 (mulf : (⟨S8x256x16384, .f32⟩ : BufTy).Contents (Elt F) → (⟨S8x256x16384, .f32⟩ : BufTy).Contents (Elt F) → (⟨S8x256x16384, .f32⟩ : BufTy).Contents (Elt F)),
    StableHlo.binary main_v33 main_v36 main_v37 (subf : (⟨S8x256x16384, .f32⟩ : BufTy).Contents (Elt F) → (⟨S8x256x16384, .f32⟩ : BufTy).Contents (Elt F) → (⟨S8x256x16384, .f32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
/-- 3 host operations of @argsort_0 (main_call3), in order. -/
abbrev hostOps0_4 : List (HloOp τ sig (Elt F)) :=
  [ StableHlo.TRef.nullary (.of main_call3_v0 : StableHlo.TRef sig ⟨S8x256x16384, .i32⟩) (iotaInDim S8x256x16384 32 2),
    StableHlo.TRef.binary (.of main_v37 : StableHlo.TRef sig ⟨S8x256x16384, .f32⟩) (.of main_call3_v0 : StableHlo.TRef sig ⟨S8x256x16384, .i32⟩) (.of main_call3_v1_0 : StableHlo.TRef sig ⟨S8x256x16384, .f32⟩) (fun x y => (Host.sort2 S8x256x16384 2 comparator_f32_i32_d2 x y).1),
    StableHlo.TRef.binary (.of main_v37 : StableHlo.TRef sig ⟨S8x256x16384, .f32⟩) (.of main_call3_v0 : StableHlo.TRef sig ⟨S8x256x16384, .i32⟩) (.of main_v38 : StableHlo.TRef sig ⟨S8x256x16384, .i32⟩) (fun x y => (Host.sort2 S8x256x16384 2 comparator_f32_i32_d2 x y).2) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.binary_bufs_sub .., StableHlo.binary_bufs_sub ..⟩
/-- 12 host operations of @main, in order. -/
abbrev hostOps0_5 : List (HloOp τ sig (Elt F)) :=
  [ StableHlo.unary main_v38 main_v39 ((extractStridedSlice S8x256x32 ![0, 0, 0] · slices_S8x256x16384_S8x256x32_0_0_0) : (⟨S8x256x16384, .i32⟩ : BufTy).Contents (Elt F) → (⟨S8x256x32, .i32⟩ : BufTy).Contents (Elt F)),
    StableHlo.unary main_v5 main_v40 (broadcastInDim S8x1x1 ![0] bcast_S8_S8x1x1_0 : (⟨S8, .i32⟩ : BufTy).Contents (Elt F) → (⟨S8x1x1, .i32⟩ : BufTy).Contents (Elt F)),
    StableHlo.unary main_v40 main_v41 (broadcastInDim S8x256x32 ![0, 1, 2] bcast_S8x1x1_S8x256x32_0_1_2 : (⟨S8x1x1, .i32⟩ : BufTy).Contents (Elt F) → (⟨S8x256x32, .i32⟩ : BufTy).Contents (Elt F)),
    StableHlo.unary main_v41 main_v42 (broadcastInDim S8x256x32x1 ![0, 1, 2] bcast_S8x256x32_S8x256x32x1_0_1_2 : (⟨S8x256x32, .i32⟩ : BufTy).Contents (Elt F) → (⟨S8x256x32x1, .i32⟩ : BufTy).Contents (Elt F)),
    StableHlo.unary main_v39 main_v43 (broadcastInDim S8x256x32x1 ![0, 1, 2] bcast_S8x256x32_S8x256x32x1_0_1_2 : (⟨S8x256x32, .i32⟩ : BufTy).Contents (Elt F) → (⟨S8x256x32x1, .i32⟩ : BufTy).Contents (Elt F)),
    StableHlo.binary main_v42 main_v43 main_v44 ((fun a b => concatenate S8x256x32x2 3 [⟨S8x256x32x1, a⟩, ⟨S8x256x32x1, b⟩] concatenates_S8x256x32x1_S8x256x32x1_S8x256x32x2_d3) : (⟨S8x256x32x1, .i32⟩ : BufTy).Contents (Elt F) → (⟨S8x256x32x1, .i32⟩ : BufTy).Contents (Elt F) → (⟨S8x256x32x2, .i32⟩ : BufTy).Contents (Elt F)),
    StableHlo.binary main_arg0 main_v44 main_v45 ((fun x i => Host.gather gather_S8x16384x3_S8x256x32x2_S8x256x32x3_3_01_n_n_01_3_113 x i) : (⟨S8x16384x3, .f32⟩ : BufTy).Contents (Elt F) → (⟨S8x256x32x2, .i32⟩ : BufTy).Contents (Elt F) → (⟨S8x256x32x3, .f32⟩ : BufTy).Contents (Elt F)),
    StableHlo.unary main_v24 main_v46 (broadcastInDim S8x256x1x3 ![0, 1, 3] bcast_S8x256x3_S8x256x1x3_0_1_3 : (⟨S8x256x3, .f32⟩ : BufTy).Contents (Elt F) → (⟨S8x256x1x3, .f32⟩ : BufTy).Contents (Elt F)),
    StableHlo.unary main_v46 main_v47 (broadcastInDim S8x256x32x3 ![0, 1, 2, 3] bcast_S8x256x1x3_S8x256x32x3_0_1_2_3 : (⟨S8x256x1x3, .f32⟩ : BufTy).Contents (Elt F) → (⟨S8x256x32x3, .f32⟩ : BufTy).Contents (Elt F)),
    StableHlo.binary main_v45 main_v47 main_v48 (subf : (⟨S8x256x32x3, .f32⟩ : BufTy).Contents (Elt F) → (⟨S8x256x32x3, .f32⟩ : BufTy).Contents (Elt F) → (⟨S8x256x32x3, .f32⟩ : BufTy).Contents (Elt F)),
    StableHlo.unary main_v48 main_v49 ((transpose S8x256x3x32 [0, 1, 3, 2] · transposes_S8x256x32x3_S8x256x3x32_0_1_3_2) : (⟨S8x256x32x3, .f32⟩ : BufTy).Contents (Elt F) → (⟨S8x256x3x32, .f32⟩ : BufTy).Contents (Elt F)),
    StableHlo.reshape main_v49 main_v50 (rfl : (.f32 : EltTy) = .f32) shapeCasts_S8x256x3x32_S8x256x96 ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub ..⟩
/-- 12 host operations of @main, window 0 (statements 1 … 60), in order. -/
abbrev main_part0_ops0 : List (HloOp τ sig (Elt F)) :=
  [ StableHlo.nullary main_cst (constant S_ .f32 0x501502F9#32),
    StableHlo.unary main_cst main_v0 (broadcastInDim S8x16384 ![] bcast_S_S8x16384 : (⟨S_, .f32⟩ : BufTy).Contents (Elt F) → (⟨S8x16384, .f32⟩ : BufTy).Contents (Elt F)),
    StableHlo.nullary main_c (constantI S_ 32 0#32),
    StableHlo.unary main_c main_v1 (broadcastInDim S8 ![] bcast_S_S8 : (⟨S_, .i32⟩ : BufTy).Contents (Elt F) → (⟨S8, .i32⟩ : BufTy).Contents (Elt F)),
    StableHlo.nullary main_c_0 (constantI S_ 32 0#32),
    StableHlo.unary main_c_0 main_v2 (broadcastInDim S256x8 ![] bcast_S_S256x8 : (⟨S_, .i32⟩ : BufTy).Contents (Elt F) → (⟨S256x8, .i32⟩ : BufTy).Contents (Elt F)),
    StableHlo.nullary main_c_1 (constantI S_ 32 0#32),
    StableHlo.unary main_arg0 main_v3_0 id,
    StableHlo.unary main_c_1 main_v3_1 id,
    StableHlo.unary main_v0 main_v3_2 id,
    StableHlo.unary main_v1 main_v3_3 id,
    StableHlo.unary main_v2 main_v3_4 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 16 host operations of @main, window 0 (statements 1 … 60), in order. -/
abbrev main_part0_ops1 : List (HloOp τ sig (Elt F)) :=
  [ StableHlo.unary main_v3_4 main_v4 ((transpose S8x256 [1, 0] · transposes_S256x8_S8x256_1_0) : (⟨S256x8, .i32⟩ : BufTy).Contents (Elt F) → (⟨S8x256, .i32⟩ : BufTy).Contents (Elt F)),
    StableHlo.nullary main_v5 (iotaInDim S8 32 0),
    StableHlo.unary main_v5 main_v6 (broadcastInDim S8x1 ![0] bcast_S8_S8x1_0 : (⟨S8, .i32⟩ : BufTy).Contents (Elt F) → (⟨S8x1, .i32⟩ : BufTy).Contents (Elt F)),
    StableHlo.unary main_v6 main_v7 (broadcastInDim S8x256 ![0, 1] bcast_S8x1_S8x256_0_1 : (⟨S8x1, .i32⟩ : BufTy).Contents (Elt F) → (⟨S8x256, .i32⟩ : BufTy).Contents (Elt F)),
    StableHlo.unary main_v7 main_v8 (broadcastInDim S8x256x1 ![0, 1] bcast_S8x256_S8x256x1_0_1 : (⟨S8x256, .i32⟩ : BufTy).Contents (Elt F) → (⟨S8x256x1, .i32⟩ : BufTy).Contents (Elt F)),
    StableHlo.unary main_v4 main_v9 (broadcastInDim S8x256x1 ![0, 1] bcast_S8x256_S8x256x1_0_1 : (⟨S8x256, .i32⟩ : BufTy).Contents (Elt F) → (⟨S8x256x1, .i32⟩ : BufTy).Contents (Elt F)),
    StableHlo.binary main_v8 main_v9 main_v10 ((fun a b => concatenate S8x256x2 2 [⟨S8x256x1, a⟩, ⟨S8x256x1, b⟩] concatenates_S8x256x1_S8x256x1_S8x256x2_d2) : (⟨S8x256x1, .i32⟩ : BufTy).Contents (Elt F) → (⟨S8x256x1, .i32⟩ : BufTy).Contents (Elt F) → (⟨S8x256x2, .i32⟩ : BufTy).Contents (Elt F)),
    StableHlo.binary main_arg0 main_v10 main_v11 ((fun x i => Host.gather gather_S8x16384x3_S8x256x2_S8x256x3_2_01_n_n_01_2_113 x i) : (⟨S8x16384x3, .f32⟩ : BufTy).Contents (Elt F) → (⟨S8x256x2, .i32⟩ : BufTy).Contents (Elt F) → (⟨S8x256x3, .f32⟩ : BufTy).Contents (Elt F)),
    StableHlo.nullary main_cst_2 (constant S_ .f32 0x7F800000#32),
    StableHlo.binary main_v11 main_cst_2 main_v12 ((fun x v => Host.reduce FloatOps.minimumf x v reducesTo_S8x256x3_S3_d0_1 h_S_) : (⟨S8x256x3, .f32⟩ : BufTy).Contents (Elt F) → (⟨S_, .f32⟩ : BufTy).Contents (Elt F) → (⟨S3, .f32⟩ : BufTy).Contents (Elt F)),
    StableHlo.unary main_v12 main_v13 (broadcastInDim S1x1x3 ![2] bcast_S3_S1x1x3_2 : (⟨S3, .f32⟩ : BufTy).Contents (Elt F) → (⟨S1x1x3, .f32⟩ : BufTy).Contents (Elt F)),
    StableHlo.unary main_v13 main_v14 (broadcastInDim S8x256x3 ![0, 1, 2] bcast_S1x1x3_S8x256x3_0_1_2 : (⟨S1x1x3, .f32⟩ : BufTy).Contents (Elt F) → (⟨S8x256x3, .f32⟩ : BufTy).Contents (Elt F)),
    StableHlo.binary main_v11 main_v14 main_v15 (subf : (⟨S8x256x3, .f32⟩ : BufTy).Contents (Elt F) → (⟨S8x256x3, .f32⟩ : BufTy).Contents (Elt F) → (⟨S8x256x3, .f32⟩ : BufTy).Contents (Elt F)),
    StableHlo.binary main_v15 main_v15 main_v16 (mulf : (⟨S8x256x3, .f32⟩ : BufTy).Contents (Elt F) → (⟨S8x256x3, .f32⟩ : BufTy).Contents (Elt F) → (⟨S8x256x3, .f32⟩ : BufTy).Contents (Elt F)),
    StableHlo.nullary main_cst_3 (constant S_ .f32 0x00000000#32),
    StableHlo.binary main_v16 main_cst_3 main_v17 ((fun x v => Host.reduceAdd x v reducesTo_S8x256x3_S8x256_d2 h_S_) : (⟨S8x256x3, .f32⟩ : BufTy).Contents (Elt F) → (⟨S_, .f32⟩ : BufTy).Contents (Elt F) → (⟨S8x256, .f32⟩ : BufTy).Contents (Elt F)) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub ..⟩
/-- 3 host operations of @argsort (main_call2), window 0 (statements 1 … 60), in order. -/
abbrev main_part0_ops2 : List (HloOp τ sig (Elt F)) :=
  [ StableHlo.TRef.nullary (.of main_call2_v0 : StableHlo.TRef sig ⟨S8x256, .i32⟩) (iotaInDim S8x256 32 1),
    StableHlo.TRef.binary (.of main_v17 : StableHlo.TRef sig ⟨S8x256, .f32⟩) (.of main_call2_v0 : StableHlo.TRef sig ⟨S8x256, .i32⟩) (.of main_call2_v1_0 : StableHlo.TRef sig ⟨S8x256, .f32⟩) (fun x y => (Host.sort2 S8x256 1 comparator_f32_i32_d1 x y).1),
    StableHlo.TRef.binary (.of main_v17 : StableHlo.TRef sig ⟨S8x256, .f32⟩) (.of main_call2_v0 : StableHlo.TRef sig ⟨S8x256, .i32⟩) (.of main_v18 : StableHlo.TRef sig ⟨S8x256, .i32⟩) (fun x y => (Host.sort2 S8x256 1 comparator_f32_i32_d1 x y).2) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.binary_bufs_sub .., StableHlo.binary_bufs_sub ..⟩
/-- 22 host operations of @main, window 0 (statements 1 … 60), in order. -/
abbrev main_part0_ops3 : List (HloOp τ sig (Elt F)) :=
  [ StableHlo.unary main_v5 main_v19 (broadcastInDim S8x1 ![0] bcast_S8_S8x1_0 : (⟨S8, .i32⟩ : BufTy).Contents (Elt F) → (⟨S8x1, .i32⟩ : BufTy).Contents (Elt F)),
    StableHlo.unary main_v19 main_v20 (broadcastInDim S8x256 ![0, 1] bcast_S8x1_S8x256_0_1 : (⟨S8x1, .i32⟩ : BufTy).Contents (Elt F) → (⟨S8x256, .i32⟩ : BufTy).Contents (Elt F)),
    StableHlo.unary main_v20 main_v21 (broadcastInDim S8x256x1 ![0, 1] bcast_S8x256_S8x256x1_0_1 : (⟨S8x256, .i32⟩ : BufTy).Contents (Elt F) → (⟨S8x256x1, .i32⟩ : BufTy).Contents (Elt F)),
    StableHlo.unary main_v18 main_v22 (broadcastInDim S8x256x1 ![0, 1] bcast_S8x256_S8x256x1_0_1 : (⟨S8x256, .i32⟩ : BufTy).Contents (Elt F) → (⟨S8x256x1, .i32⟩ : BufTy).Contents (Elt F)),
    StableHlo.binary main_v21 main_v22 main_v23 ((fun a b => concatenate S8x256x2 2 [⟨S8x256x1, a⟩, ⟨S8x256x1, b⟩] concatenates_S8x256x1_S8x256x1_S8x256x2_d2) : (⟨S8x256x1, .i32⟩ : BufTy).Contents (Elt F) → (⟨S8x256x1, .i32⟩ : BufTy).Contents (Elt F) → (⟨S8x256x2, .i32⟩ : BufTy).Contents (Elt F)),
    StableHlo.binary main_v11 main_v23 main_v24 ((fun x i => Host.gather gather_S8x256x3_S8x256x2_S8x256x3_2_01_n_n_01_2_113 x i) : (⟨S8x256x3, .f32⟩ : BufTy).Contents (Elt F) → (⟨S8x256x2, .i32⟩ : BufTy).Contents (Elt F) → (⟨S8x256x3, .f32⟩ : BufTy).Contents (Elt F)),
    StableHlo.binary main_v24 main_v24 main_v25 (mulf : (⟨S8x256x3, .f32⟩ : BufTy).Contents (Elt F) → (⟨S8x256x3, .f32⟩ : BufTy).Contents (Elt F) → (⟨S8x256x3, .f32⟩ : BufTy).Contents (Elt F)),
    StableHlo.nullary main_cst_4 (constant S_ .f32 0x00000000#32),
    StableHlo.binary main_v25 main_cst_4 main_v26 ((fun x v => Host.reduceAdd x v reducesTo_S8x256x3_S8x256_d2 h_S_) : (⟨S8x256x3, .f32⟩ : BufTy).Contents (Elt F) → (⟨S_, .f32⟩ : BufTy).Contents (Elt F) → (⟨S8x256, .f32⟩ : BufTy).Contents (Elt F)),
    StableHlo.unary main_v26 main_v27 (broadcastInDim S8x256x1 ![0, 1] bcast_S8x256_S8x256x1_0_1 : (⟨S8x256, .f32⟩ : BufTy).Contents (Elt F) → (⟨S8x256x1, .f32⟩ : BufTy).Contents (Elt F)),
    StableHlo.binary main_arg0 main_arg0 main_v28 (mulf : (⟨S8x16384x3, .f32⟩ : BufTy).Contents (Elt F) → (⟨S8x16384x3, .f32⟩ : BufTy).Contents (Elt F) → (⟨S8x16384x3, .f32⟩ : BufTy).Contents (Elt F)),
    StableHlo.nullary main_cst_5 (constant S_ .f32 0x00000000#32),
    StableHlo.binary main_v28 main_cst_5 main_v29 ((fun x v => Host.reduceAdd x v reducesTo_S8x16384x3_S8x16384_d2 h_S_) : (⟨S8x16384x3, .f32⟩ : BufTy).Contents (Elt F) → (⟨S_, .f32⟩ : BufTy).Contents (Elt F) → (⟨S8x16384, .f32⟩ : BufTy).Contents (Elt F)),
    StableHlo.unary main_v29 main_v30 (broadcastInDim S8x1x16384 ![0, 2] bcast_S8x16384_S8x1x16384_0_2 : (⟨S8x16384, .f32⟩ : BufTy).Contents (Elt F) → (⟨S8x1x16384, .f32⟩ : BufTy).Contents (Elt F)),
    StableHlo.unary main_v27 main_v31 (broadcastInDim S8x256x16384 ![0, 1, 2] bcast_S8x256x1_S8x256x16384_0_1_2 : (⟨S8x256x1, .f32⟩ : BufTy).Contents (Elt F) → (⟨S8x256x16384, .f32⟩ : BufTy).Contents (Elt F)),
    StableHlo.unary main_v30 main_v32 (broadcastInDim S8x256x16384 ![0, 1, 2] bcast_S8x1x16384_S8x256x16384_0_1_2 : (⟨S8x1x16384, .f32⟩ : BufTy).Contents (Elt F) → (⟨S8x256x16384, .f32⟩ : BufTy).Contents (Elt F)),
    StableHlo.binary main_v31 main_v32 main_v33 (addf : (⟨S8x256x16384, .f32⟩ : BufTy).Contents (Elt F) → (⟨S8x256x16384, .f32⟩ : BufTy).Contents (Elt F) → (⟨S8x256x16384, .f32⟩ : BufTy).Contents (Elt F)),
    StableHlo.binary main_v24 main_arg0 main_v34 ((fun l r => Host.dotGeneral dot_S8x256x3_S8x16384x3_S8x256x16384_2_2_1_1_0_0 none l r) : (⟨S8x256x3, .f32⟩ : BufTy).Contents (Elt F) → (⟨S8x16384x3, .f32⟩ : BufTy).Contents (Elt F) → (⟨S8x256x16384, .f32⟩ : BufTy).Contents (Elt F)),
    StableHlo.nullary main_cst_6 (constant S_ .f32 0x40000000#32),
    StableHlo.unary main_cst_6 main_v35 (broadcastInDim S8x256x16384 ![] bcast_S_S8x256x16384 : (⟨S_, .f32⟩ : BufTy).Contents (Elt F) → (⟨S8x256x16384, .f32⟩ : BufTy).Contents (Elt F)),
    StableHlo.binary main_v35 main_v34 main_v36 (mulf : (⟨S8x256x16384, .f32⟩ : BufTy).Contents (Elt F) → (⟨S8x256x16384, .f32⟩ : BufTy).Contents (Elt F) → (⟨S8x256x16384, .f32⟩ : BufTy).Contents (Elt F)),
    StableHlo.binary main_v33 main_v36 main_v37 (subf : (⟨S8x256x16384, .f32⟩ : BufTy).Contents (Elt F) → (⟨S8x256x16384, .f32⟩ : BufTy).Contents (Elt F) → (⟨S8x256x16384, .f32⟩ : BufTy).Contents (Elt F)) ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
/-- 3 host operations of @argsort_0 (main_call3), window 0 (statements 1 … 60), in order. -/
abbrev main_part0_ops4 : List (HloOp τ sig (Elt F)) :=
  [ StableHlo.TRef.nullary (.of main_call3_v0 : StableHlo.TRef sig ⟨S8x256x16384, .i32⟩) (iotaInDim S8x256x16384 32 2),
    StableHlo.TRef.binary (.of main_v37 : StableHlo.TRef sig ⟨S8x256x16384, .f32⟩) (.of main_call3_v0 : StableHlo.TRef sig ⟨S8x256x16384, .i32⟩) (.of main_call3_v1_0 : StableHlo.TRef sig ⟨S8x256x16384, .f32⟩) (fun x y => (Host.sort2 S8x256x16384 2 comparator_f32_i32_d2 x y).1),
    StableHlo.TRef.binary (.of main_v37 : StableHlo.TRef sig ⟨S8x256x16384, .f32⟩) (.of main_call3_v0 : StableHlo.TRef sig ⟨S8x256x16384, .i32⟩) (.of main_v38 : StableHlo.TRef sig ⟨S8x256x16384, .i32⟩) (fun x y => (Host.sort2 S8x256x16384 2 comparator_f32_i32_d2 x y).2) ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.nullary_bufs_sub .., StableHlo.binary_bufs_sub .., StableHlo.binary_bufs_sub ..⟩
/-- 7 host operations of @main, window 0 (statements 1 … 60), in order. -/
abbrev main_part0_ops5 : List (HloOp τ sig (Elt F)) :=
  [ StableHlo.unary main_v38 main_v39 ((extractStridedSlice S8x256x32 ![0, 0, 0] · slices_S8x256x16384_S8x256x32_0_0_0) : (⟨S8x256x16384, .i32⟩ : BufTy).Contents (Elt F) → (⟨S8x256x32, .i32⟩ : BufTy).Contents (Elt F)),
    StableHlo.unary main_v5 main_v40 (broadcastInDim S8x1x1 ![0] bcast_S8_S8x1x1_0 : (⟨S8, .i32⟩ : BufTy).Contents (Elt F) → (⟨S8x1x1, .i32⟩ : BufTy).Contents (Elt F)),
    StableHlo.unary main_v40 main_v41 (broadcastInDim S8x256x32 ![0, 1, 2] bcast_S8x1x1_S8x256x32_0_1_2 : (⟨S8x1x1, .i32⟩ : BufTy).Contents (Elt F) → (⟨S8x256x32, .i32⟩ : BufTy).Contents (Elt F)),
    StableHlo.unary main_v41 main_v42 (broadcastInDim S8x256x32x1 ![0, 1, 2] bcast_S8x256x32_S8x256x32x1_0_1_2 : (⟨S8x256x32, .i32⟩ : BufTy).Contents (Elt F) → (⟨S8x256x32x1, .i32⟩ : BufTy).Contents (Elt F)),
    StableHlo.unary main_v39 main_v43 (broadcastInDim S8x256x32x1 ![0, 1, 2] bcast_S8x256x32_S8x256x32x1_0_1_2 : (⟨S8x256x32, .i32⟩ : BufTy).Contents (Elt F) → (⟨S8x256x32x1, .i32⟩ : BufTy).Contents (Elt F)),
    StableHlo.binary main_v42 main_v43 main_v44 ((fun a b => concatenate S8x256x32x2 3 [⟨S8x256x32x1, a⟩, ⟨S8x256x32x1, b⟩] concatenates_S8x256x32x1_S8x256x32x1_S8x256x32x2_d3) : (⟨S8x256x32x1, .i32⟩ : BufTy).Contents (Elt F) → (⟨S8x256x32x1, .i32⟩ : BufTy).Contents (Elt F) → (⟨S8x256x32x2, .i32⟩ : BufTy).Contents (Elt F)),
    StableHlo.binary main_arg0 main_v44 main_v45 ((fun x i => Host.gather gather_S8x16384x3_S8x256x32x2_S8x256x32x3_3_01_n_n_01_3_113 x i) : (⟨S8x16384x3, .f32⟩ : BufTy).Contents (Elt F) → (⟨S8x256x32x2, .i32⟩ : BufTy).Contents (Elt F) → (⟨S8x256x32x3, .f32⟩ : BufTy).Contents (Elt F)) ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.binary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0,
    StableHlo.seq main_part0_ops1,
    StableHlo.seq main_part0_ops2,
    StableHlo.seq main_part0_ops3,
    StableHlo.seq main_part0_ops4 ]
  (StableHlo.seq main_part0_ops5) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons]
  chain_rfl

/-- 5 host operations of @main, window 1 (statements 61 … 66), in order. -/
abbrev main_part1_ops0 : List (HloOp τ sig (Elt F)) :=
  [ StableHlo.unary main_v24 main_v46 (broadcastInDim S8x256x1x3 ![0, 1, 3] bcast_S8x256x3_S8x256x1x3_0_1_3 : (⟨S8x256x3, .f32⟩ : BufTy).Contents (Elt F) → (⟨S8x256x1x3, .f32⟩ : BufTy).Contents (Elt F)),
    StableHlo.unary main_v46 main_v47 (broadcastInDim S8x256x32x3 ![0, 1, 2, 3] bcast_S8x256x1x3_S8x256x32x3_0_1_2_3 : (⟨S8x256x1x3, .f32⟩ : BufTy).Contents (Elt F) → (⟨S8x256x32x3, .f32⟩ : BufTy).Contents (Elt F)),
    StableHlo.binary main_v45 main_v47 main_v48 (subf : (⟨S8x256x32x3, .f32⟩ : BufTy).Contents (Elt F) → (⟨S8x256x32x3, .f32⟩ : BufTy).Contents (Elt F) → (⟨S8x256x32x3, .f32⟩ : BufTy).Contents (Elt F)),
    StableHlo.unary main_v48 main_v49 ((transpose S8x256x3x32 [0, 1, 3, 2] · transposes_S8x256x32x3_S8x256x3x32_0_1_3_2) : (⟨S8x256x32x3, .f32⟩ : BufTy).Contents (Elt F) → (⟨S8x256x3x32, .f32⟩ : BufTy).Contents (Elt F)),
    StableHlo.reshape main_v49 main_v50 (rfl : (.f32 : EltTy) = .f32) shapeCasts_S8x256x3x32_S8x256x96 ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.reshape_bufs_sub ..⟩
/-- The last window of `main` (`main_part1`, statements 61 … 66) is the chain of ITS items, each item aligned with the window's
    statements, then `chain_rfl`. -/
theorem main_part1_chain (c : Dev nD) : main_part1 (F := F) c = (Pipeline.chain
  [ StableHlo.seq main_part1_ops0 ] : Prog (TpuEff nD τ sig (Elt F) (HostLoop.Sig (Pipeline.Sig Λ₀ (Fin 0) fun p => (pcfgs (F := F) p).Adm) 1) .tc) PUnit) := by
  rewrite [StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part1_ops0 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1],
    .ops [main_part0_ops2],
    .ops [main_part0_ops3],
    .ops [main_part0_ops4],
    .ops [main_part0_ops5, main_part1_ops0] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part1_ops0 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 19 host operations of host loop 0's body region, in order. -/
abbrev while0Ops0 : List (HloOp τ sig (Elt F)) :=
  [ StableHlo.nullary main_while0b_v51 (iotaInDim S8 32 0),
    StableHlo.unary main_while0b_v51 main_while0b_v52 (broadcastInDim S8x1 ![0] bcast_S8_S8x1_0 : (⟨S8, .i32⟩ : BufTy).Contents (Elt F) → (⟨S8x1, .i32⟩ : BufTy).Contents (Elt F)),
    StableHlo.unary main_v3_3 main_while0b_v53 (broadcastInDim S8x1 ![0] bcast_S8_S8x1_0 : (⟨S8, .i32⟩ : BufTy).Contents (Elt F) → (⟨S8x1, .i32⟩ : BufTy).Contents (Elt F)),
    StableHlo.binary main_while0b_v52 main_while0b_v53 main_while0b_v54 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.binary main_v3_0 main_while0b_v54 main_while0b_v55 ((fun x i => Host.gather gather_S8x16384x3_S8x2_S8x3_1_01_n_n_01_1_113 x i) : (⟨S8x16384x3, .f32⟩ : BufTy).Contents (Elt F) → (⟨S8x2, .i32⟩ : BufTy).Contents (Elt F) → (⟨S8x3, .f32⟩ : BufTy).Contents (Elt F)),
    StableHlo.unary main_while0b_v55 main_while0b_v56 (broadcastInDim S8x1x3 ![0, 2] bcast_S8x3_S8x1x3_0_2 : (⟨S8x3, .f32⟩ : BufTy).Contents (Elt F) → (⟨S8x1x3, .f32⟩ : BufTy).Contents (Elt F)),
    StableHlo.unary main_while0b_v56 main_while0b_v57 (broadcastInDim S8x16384x3 ![0, 1, 2] bcast_S8x1x3_S8x16384x3_0_1_2 : (⟨S8x1x3, .f32⟩ : BufTy).Contents (Elt F) → (⟨S8x16384x3, .f32⟩ : BufTy).Contents (Elt F)),
    StableHlo.binary main_v3_0 main_while0b_v57 main_while0b_v58 (subf : (⟨S8x16384x3, .f32⟩ : BufTy).Contents (Elt F) → (⟨S8x16384x3, .f32⟩ : BufTy).Contents (Elt F) → (⟨S8x16384x3, .f32⟩ : BufTy).Contents (Elt F)),
    StableHlo.binary main_while0b_v58 main_while0b_v58 main_while0b_v59 (mulf : (⟨S8x16384x3, .f32⟩ : BufTy).Contents (Elt F) → (⟨S8x16384x3, .f32⟩ : BufTy).Contents (Elt F) → (⟨S8x16384x3, .f32⟩ : BufTy).Contents (Elt F)),
    StableHlo.nullary main_while0b_cst_11 (constant S_ .f32 0x00000000#32),
    StableHlo.binary main_while0b_v59 main_while0b_cst_11 main_while0b_v60 ((fun x v => Host.reduceAdd x v reducesTo_S8x16384x3_S8x16384_d2 h_S_) : (⟨S8x16384x3, .f32⟩ : BufTy).Contents (Elt F) → (⟨S_, .f32⟩ : BufTy).Contents (Elt F) → (⟨S8x16384, .f32⟩ : BufTy).Contents (Elt F)),
    StableHlo.binary main_v3_2 main_while0b_v60 main_while0b_v61 (minimumf : (⟨S8x16384, .f32⟩ : BufTy).Contents (Elt F) → (⟨S8x16384, .f32⟩ : BufTy).Contents (Elt F) → (⟨S8x16384, .f32⟩ : BufTy).Contents (Elt F)),
    StableHlo.nullary main_while0b_cst_12 (constant S_ .f32 0xFF800000#32),
    StableHlo.binary main_while0b_v61 main_while0b_cst_12 main_while0b_v62 ((fun x v => Host.reduce FloatOps.maximumf x v reducesTo_S8x16384_S8_d1 h_S_) : (⟨S8x16384, .f32⟩ : BufTy).Contents (Elt F) → (⟨S_, .f32⟩ : BufTy).Contents (Elt F) → (⟨S8, .f32⟩ : BufTy).Contents (Elt F)),
    StableHlo.unary main_while0b_v62 main_while0b_v63 (broadcastInDim S8x1 ![0] bcast_S8_S8x1_0 : (⟨S8, .f32⟩ : BufTy).Contents (Elt F) → (⟨S8x1, .f32⟩ : BufTy).Contents (Elt F)),
    StableHlo.unary main_while0b_v63 main_while0b_v64 (broadcastInDim S8x16384 ![0, 1] bcast_S8x1_S8x16384_0_1 : (⟨S8x1, .f32⟩ : BufTy).Contents (Elt F) → (⟨S8x16384, .f32⟩ : BufTy).Contents (Elt F)),
    StableHlo.binary main_while0b_v61 main_while0b_v64 main_while0b_v65 (cmpf .oeq : (⟨S8x16384, .f32⟩ : BufTy).Contents (Elt F) → (⟨S8x16384, .f32⟩ : BufTy).Contents (Elt F) → (⟨S8x16384, .i1⟩ : BufTy).Contents (Elt F)),
    StableHlo.nullary main_while0b_v66 (iotaInDim S8x16384 32 1),
    StableHlo.nullary main_while0b_c_13 (constantI S_ 32 16384#32) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩
/-- 3 host operations of @_where (main_while0b_call0), in order. -/
abbrev while0Ops0_1 : List (HloOp τ sig (Elt F)) :=
  [ StableHlo.TRef.unary (.of main_while0b_c_13 : StableHlo.TRef sig ⟨S_, .i32⟩) (.of main_while0b_call0_v0 : StableHlo.TRef sig ⟨S_, .i32⟩) id,
    StableHlo.TRef.unary (.of main_while0b_call0_v0 : StableHlo.TRef sig ⟨S_, .i32⟩) (.of main_while0b_call0_v1 : StableHlo.TRef sig ⟨S8x16384, .i32⟩) (broadcastInDim S8x16384 ![] bcast_S_S8x16384),
    StableHlo.TRef.ternary (.of main_while0b_v65 : StableHlo.TRef sig ⟨S8x16384, .i1⟩) (.of main_while0b_v66 : StableHlo.TRef sig ⟨S8x16384, .i32⟩) (.of main_while0b_call0_v1 : StableHlo.TRef sig ⟨S8x16384, .i32⟩) (.of main_while0b_v67 : StableHlo.TRef sig ⟨S8x16384, .i32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.ternary_bufs_sub ..⟩
/-- 2 host operations of host loop 0's body region, in order. -/
abbrev while0Ops0_2 : List (HloOp τ sig (Elt F)) :=
  [ StableHlo.nullary main_while0b_c_14 (constantI S_ 32 2147483647#32),
    StableHlo.binary main_while0b_v67 main_while0b_c_14 main_while0b_v68 ((fun x v => Host.reduce IntOp.minsi x v reducesTo_S8x16384_S8_d1 h_S_) : (⟨S8x16384, .i32⟩ : BufTy).Contents (Elt F) → (⟨S_, .i32⟩ : BufTy).Contents (Elt F) → (⟨S8, .i32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub ..⟩
/-- 3 host operations of @dynamic_update_index_in_dim (main_while0b_call1), in order. -/
abbrev while0Ops0_3 : List (HloOp τ sig (Elt F)) :=
  [ StableHlo.TRef.unary (.of main_v3_3 : StableHlo.TRef sig ⟨S8, .i32⟩) (.of main_while0b_call1_v0 : StableHlo.TRef sig ⟨S1x8, .i32⟩) (broadcastInDim S1x8 ![1] bcast_S8_S1x8_1),
    StableHlo.TRef.nullary (.of main_while0b_call1_c : StableHlo.TRef sig ⟨S_, .i32⟩) (constantI S_ 32 0#32),
    StableHlo.TRef.binaryIndexed (.of main_v3_4 : StableHlo.TRef sig ⟨S256x8, .i32⟩) (.of main_while0b_call1_v0 : StableHlo.TRef sig ⟨S1x8, .i32⟩) ![(.of main_v3_1 : StableHlo.TRef sig ⟨S_, .i32⟩), (.of main_while0b_call1_c : StableHlo.TRef sig ⟨S_, .i32⟩)] (.of main_while0b_v69 : StableHlo.TRef sig ⟨S256x8, .i32⟩) (fun x u i => Host.dynamicUpdateSlice x u (fun k => (i k (Shape.Idx.first h_S_)).toInt) updateFits_S256x8_S1x8) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 0's body region, in order. -/
abbrev while0Ops0_4 : List (HloOp τ sig (Elt F)) :=
  [ StableHlo.nullary main_while0b_c_15 (constantI S_ 32 1#32),
    StableHlo.binary main_v3_1 main_while0b_c_15 main_while0b_v70 (addi : (⟨S_, .i32⟩ : BufTy).Contents (Elt F) → (⟨S_, .i32⟩ : BufTy).Contents (Elt F) → (⟨S_, .i32⟩ : BufTy).Contents (Elt F)),
    StableHlo.unary main_while0b_v70 main_v3_1 id,
    StableHlo.unary main_while0b_v61 main_v3_2 id,
    StableHlo.unary main_while0b_v68 main_v3_3 id,
    StableHlo.unary main_while0b_v69 main_v3_4 id ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

end Cert.ReferenceIdeal.Run

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_v0, main_c, main_v1, main_c_0, main_v2, main_c_1, main_v3_0, main_v3_1, main_v3_2, main_v3_3, main_v3_4]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_v51, main_while0b_v52, main_while0b_v53, main_while0b_v54, main_while0b_v55, main_while0b_v56, main_while0b_v57, main_while0b_v58, main_while0b_v59, main_while0b_cst_11, main_while0b_v60, main_while0b_v61, main_while0b_cst_12, main_while0b_v62, main_while0b_v63, main_while0b_v64, main_while0b_v65, main_while0b_v66, main_while0b_c_13]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_v1, main_while0b_v67]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_c_14, main_while0b_v68]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call1_v0, main_while0b_call1_c, main_while0b_v69]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_c_15, main_while0b_v70, main_v3_1, main_v3_2, main_v3_3, main_v3_4]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_1` writes, in order. -/
abbrev hostOps0_1_W : List (Ref sig .tc) := [main_v4, main_v5, main_v6, main_v7, main_v8, main_v9, main_v10, main_v11, main_cst_2, main_v12, main_v13, main_v14, main_v15, main_v16, main_cst_3, main_v17]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call2_v0, main_call2_v1_0, main_v18]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v19, main_v20, main_v21, main_v22, main_v23, main_v24, main_v25, main_cst_4, main_v26, main_v27, main_v28, main_cst_5, main_v29, main_v30, main_v31, main_v32, main_v33, main_v34, main_cst_6, main_v35, main_v36, main_v37]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call3_v0, main_call3_v1_0, main_v38]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_v39, main_v40, main_v41, main_v42, main_v43, main_v44, main_v45, main_v46, main_v47, main_v48, main_v49, main_v50]
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_11 (constantI S_ 32 256#32),
    StableHlo.binary main_v3_1 main_while0c_c_11 main_while0c_v51 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4]
abbrev postI : List (List (HloOp τ sig (Elt F))) := [hostOps0_1, hostOps0_2, hostOps0_3, hostOps0_4, hostOps0_5]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil)))))

/-- The reference each operation of `condOps` writes, in order. -/
abbrev condOps_W : List (Ref sig .tc) := [main_while0c_c_11, main_while0c_v51]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v3_1`) is written by one stretch of the body, `while0Ops0_4`: not by the condition, nor by the
    body's other stretches. -/
theorem ctr_cond (V : Valuation τ sig (Elt F)) : after condOps V (Proc.devRef .tc main_v3_1) = V (Proc.devRef .tc main_v3_1) :=
  after_of_writes_sub condOps V condOps_writes (by decide +kernel)
theorem ctr_while0Ops0 (V : Valuation τ sig (Elt F)) : after while0Ops0 V (Proc.devRef .tc main_v3_1) = V (Proc.devRef .tc main_v3_1) :=
  after_of_writes_sub while0Ops0 V while0Ops0_writes (by decide +kernel)
theorem ctr_while0Ops0_1 (V : Valuation τ sig (Elt F)) : after while0Ops0_1 V (Proc.devRef .tc main_v3_1) = V (Proc.devRef .tc main_v3_1) :=
  after_of_writes_sub while0Ops0_1 V while0Ops0_1_writes (by decide +kernel)
theorem ctr_while0Ops0_2 (V : Valuation τ sig (Elt F)) : after while0Ops0_2 V (Proc.devRef .tc main_v3_1) = V (Proc.devRef .tc main_v3_1) :=
  after_of_writes_sub while0Ops0_2 V while0Ops0_2_writes (by decide +kernel)
theorem ctr_while0Ops0_3 (V : Valuation τ sig (Elt F)) : after while0Ops0_3 V (Proc.devRef .tc main_v3_1) = V (Proc.devRef .tc main_v3_1) :=
  after_of_writes_sub while0Ops0_3 V while0Ops0_3_writes (by decide +kernel)

set_option maxRecDepth 100000 in
/-- `while0Ops0_4` leaves the counter one step on. -/
theorem ctr_step (X : Valuation τ sig (Elt F)) :
    after while0Ops0_4 X (Proc.devRef .tc main_v3_1) = addi (X (Proc.devRef .tc main_v3_1)) (constantI S_ 32 1#32) := by
  after_results
  rfl

/-- The counter is the loop's lower bound at the loop's entry: its last writer before the loop read back. -/
theorem ctr_entry (c : Dev nD) : entryContents preI m c (Proc.devRef .tc main_v3_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v3_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 256 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_1 HostLoop.idx0)
        (HloOp.result _ (atK m k c) main_while0c_c_11 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 256 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 256 m ρ (cond_spec m)

/-! ## The result, the argument and the counters -/

/-- No operation of a list writes the buffer `b`. -/
def Keeps (ops : List (HloOp τ sig (Elt F))) (b : Ref sig .tc) : Prop := ∀ V : Valuation τ sig (Elt F), after ops V (Proc.devRef .tc b) = V (Proc.devRef .tc b)

/-- No operation of the program writes the argument. -/
theorem keep_pre : Keeps (F := F) hostOps0 main_arg0 := fun V => after_of_writes_sub _ V hostOps0_writes (by decide +kernel)
theorem keep_cond (b : Ref sig .tc) (h : b ∉ condOps_W) : Keeps (F := F) condOps b := fun V => after_of_writes_sub _ V condOps_writes h
theorem keep_body0 : Keeps (F := F) while0Ops0 main_arg0 := fun V => after_of_writes_sub _ V while0Ops0_writes (by decide +kernel)
theorem keep_body1 : Keeps (F := F) while0Ops0_1 main_arg0 := fun V => after_of_writes_sub _ V while0Ops0_1_writes (by decide +kernel)
theorem keep_body2 : Keeps (F := F) while0Ops0_2 main_arg0 := fun V => after_of_writes_sub _ V while0Ops0_2_writes (by decide +kernel)
theorem keep_body3 : Keeps (F := F) while0Ops0_3 main_arg0 := fun V => after_of_writes_sub _ V while0Ops0_3_writes (by decide +kernel)
theorem keep_body4 : Keeps (F := F) while0Ops0_4 main_arg0 := fun V => after_of_writes_sub _ V while0Ops0_4_writes (by decide +kernel)
theorem keep_post1 : Keeps (F := F) hostOps0_1 main_arg0 := fun V => after_of_writes_sub _ V hostOps0_1_writes (by decide +kernel)
theorem keep_post2 : Keeps (F := F) hostOps0_2 main_arg0 := fun V => after_of_writes_sub _ V hostOps0_2_writes (by decide +kernel)
theorem keep_post3 : Keeps (F := F) hostOps0_3 main_arg0 := fun V => after_of_writes_sub _ V hostOps0_3_writes (by decide +kernel)
theorem keep_post4 : Keeps (F := F) hostOps0_4 main_arg0 := fun V => after_of_writes_sub _ V hostOps0_4_writes (by decide +kernel)
theorem keep_post5 : Keeps (F := F) hostOps0_5 main_arg0 := fun V => after_of_writes_sub _ V hostOps0_5_writes (by decide +kernel)

/-- One trip of the loop: the buffers before the next run of the condition. -/
theorem atK_succ (k : ℕ) (c : Dev nD) :
    atK m (k + 1) c = after while0Ops0_4 (after while0Ops0_3 (after while0Ops0_2 (after while0Ops0_1 (after while0Ops0 (after condOps (atK m k c)))))) := rfl
/-- The buffers at the end. -/
abbrev last (c : Dev nD) : Valuation τ sig (Elt F) := finalContents condOps preI bodyI postI 256 m c
/-- The same, from those before the loop's last test. -/
theorem last_eq (c : Dev nD) :
    last m c = after hostOps0_5 (after hostOps0_4 (after hostOps0_3 (after hostOps0_2 (after hostOps0_1 (after condOps (atK m 256 c)))))) := rfl

/-- The argument keeps its launch contents through the loop -/
theorem atK_arg0 (c : Dev nD) : ∀ k, atK m k c (Proc.devRef .tc main_arg0) = m ((c.tc : Thread nD τ).loc main_arg0)
  | 0 => (keep_pre (launchContents m c)).trans rfl
  | k + 1 => by
    rw [atK_succ, keep_body4, keep_body3, keep_body2, keep_body1, keep_body0, keep_cond main_arg0 (by decide), atK_arg0 c k]
/-- and to the end. -/
theorem last_arg0 (c : Dev nD) : last m c (Proc.devRef .tc main_arg0) = m ((c.tc : Thread nD τ).loc main_arg0) := by
  rw [last_eq, keep_post5, keep_post4, keep_post3, keep_post2, keep_post1, keep_cond main_arg0 (by decide), atK_arg0]

/-- The result's end contents and the argument unchanged. -/
theorem run : θ_run (defs (F := F)) (onTc (τ := τ) (main (F := F))) ⟨m, fun _ => 0, ρ⟩
    (fun r => ∀ c : Dev nD, r.2.mem ((c.tc : Thread nD τ).loc main_v50) = last m c (Proc.devRef .tc main_v50)
        ∧ r.2.mem ((c.tc : Thread nD τ).loc main_arg0) = m ((c.tc : Thread nD τ).loc main_arg0)) :=
  (θ_run defs _ _).mono (fun _ h c => ⟨h c main_v50 rfl, (h c main_arg0 rfl).trans (last_arg0 m c)⟩) (run_fold m ρ)

/-- The argument unchanged and every counter zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (run m ρ)

end Cert.ReferenceIdeal.Run

end
-- ==== Proof.ReferenceStages.lean ====
/-
  WHAT THE REFERENCE'S STRETCHES LEAVE: each stretch of host operations, read at the buffers that later stretches use, is a
  stage of `Meaning.lean` at the buffers it read.
-/
module

public import proofs.«01_k».proof.Proof.ReferenceRun
public import proofs.«01_k».proof.Proof.Meaning

@[expose] public section

noncomputable section

namespace Cert.Value.Reference

open Cert.ReferenceIdeal Cert.ReferenceIdeal.Gen Cert.ReferenceIdeal.Run Cert.Value
open Idealize.ShloMosaic Idealize.ShloMosaic.TcCoe Idealize.ShloMosaic.StableHlo Idealize.SL

abbrev Val : Type := Valuation τ sig (Elt Ideal)

variable (V : Val)

/-! ## After the loop -/

theorem post1_centres : after hostOps0_1 V (Proc.devRef .tc main_v11) = centres (V (Proc.devRef .tc main_arg0)) (transpose S8x256 [1, 0] (V (Proc.devRef .tc main_v3_4)) transposes_S256x8_S8x256_1_0) := by
  after_reads_simp [readPieces, unaryIndexed_result', binaryIndexed_result', id_eq]
  rfl

theorem post1_cloud : after hostOps0_1 V (Proc.devRef .tc main_v5) = cloud := by
  after_reads_simp [readPieces, unaryIndexed_result', binaryIndexed_result', id_eq]

theorem post1_spread : after hostOps0_1 V (Proc.devRef .tc main_v17) = spread (centres (V (Proc.devRef .tc main_arg0)) (transpose S8x256 [1, 0] (V (Proc.devRef .tc main_v3_4)) transposes_S256x8_S8x256_1_0))
    (corner (centres (V (Proc.devRef .tc main_arg0)) (transpose S8x256 [1, 0] (V (Proc.devRef .tc main_v3_4)) transposes_S256x8_S8x256_1_0))) := by
  after_reads_simp [readPieces, unaryIndexed_result', binaryIndexed_result', id_eq]
  rfl

theorem post2_order : after hostOps0_2 V (Proc.devRef .tc main_v18) = order (V (Proc.devRef .tc main_v17)) := by
  after_reads_simp [readPieces, unaryIndexed_result', binaryIndexed_result', id_eq]
  rfl

theorem post3_reorder (h5 : V (Proc.devRef .tc main_v5) = cloud) :
    after hostOps0_3 V (Proc.devRef .tc main_v24) = reorder (V (Proc.devRef .tc main_v11)) (V (Proc.devRef .tc main_v18)) := by
  after_reads_simp [readPieces, unaryIndexed_result', binaryIndexed_result', id_eq]
  rw [h5]
  rfl

theorem post3_dist2 (h5 : V (Proc.devRef .tc main_v5) = cloud) :
    after hostOps0_3 V (Proc.devRef .tc main_v37) = dist2 (V (Proc.devRef .tc main_arg0)) (reorder (V (Proc.devRef .tc main_v11)) (V (Proc.devRef .tc main_v18))) := by
  after_reads_simp [readPieces, unaryIndexed_result', binaryIndexed_result', id_eq]
  rw [h5]
  rfl

theorem post4_ranked : after hostOps0_4 V (Proc.devRef .tc main_v38) = ranked (V (Proc.devRef .tc main_v37)) := by
  after_reads_simp [readPieces, unaryIndexed_result', binaryIndexed_result', id_eq]
  rfl

theorem post5_result (h5 : V (Proc.devRef .tc main_v5) = cloud) :
    after hostOps0_5 V (Proc.devRef .tc main_v50) = result (V (Proc.devRef .tc main_arg0)) (V (Proc.devRef .tc main_v24)) (nearest (V (Proc.devRef .tc main_v38))) := by
  after_reads_simp [readPieces, unaryIndexed_result', binaryIndexed_result', id_eq]
  rw [h5]
  rfl

/-! ## Before the loop and in a trip -/

theorem pre_points : after hostOps0 V (Proc.devRef .tc main_v3_0) = V (Proc.devRef .tc main_arg0) := by
  after_reads_simp [readPieces, unaryIndexed_result', binaryIndexed_result', id_eq]
theorem pre_dist : after hostOps0 V (Proc.devRef .tc main_v3_2) = (fun _ => (constant (F := Ideal) S_ .f32 0x501502F9#32) (fun a => a.elim0)) := by
  after_reads_simp [readPieces, unaryIndexed_result', binaryIndexed_result', id_eq]
  rfl

theorem pre_last : after hostOps0 V (Proc.devRef .tc main_v3_3) = (fun _ => 0#32) := by
  after_reads_simp [readPieces, unaryIndexed_result', binaryIndexed_result', id_eq]
  rfl

theorem pre_table : after hostOps0 V (Proc.devRef .tc main_v3_4) = (fun _ => 0#32) := by
  after_reads_simp [readPieces, unaryIndexed_result', binaryIndexed_result', id_eq]
  rfl

theorem trip0_dist : after while0Ops0 V (Proc.devRef .tc main_while0b_v61) = newDist (V (Proc.devRef .tc main_v3_0)) (V (Proc.devRef .tc main_v3_2)) (V (Proc.devRef .tc main_v3_3)) := by
  after_reads_simp [readPieces, unaryIndexed_result', binaryIndexed_result', id_eq]
  rfl

theorem trip012_last : after while0Ops0_2 (after while0Ops0_1 (after while0Ops0 V)) (Proc.devRef .tc main_while0b_v68) =
    furthest (newDist (V (Proc.devRef .tc main_v3_0)) (V (Proc.devRef .tc main_v3_2)) (V (Proc.devRef .tc main_v3_3))) := by
  after_reads_simp [readPieces, unaryIndexed_result', binaryIndexed_result', id_eq]
  rfl

theorem trip3_table : after while0Ops0_3 V (Proc.devRef .tc main_while0b_v69) =
    Host.dynamicUpdateSlice (V (Proc.devRef .tc main_v3_4)) (broadcastInDim S1x8 ![1] bcast_S8_S1x8_1 (V (Proc.devRef .tc main_v3_3)))
      (fun k => ((![V (Proc.devRef .tc main_v3_1), constantI S_ 32 0#32] : Fin 2 → Ind S_) k (Shape.Idx.first h_S_)).toInt) updateFits_S256x8_S1x8 := by
  after_reads_simp [binaryIndexed_result_read, indexContents_cons, indexContents_tref_cons, indexContents_tref_empty, TRef.ofBuf_toBuf]
  simp only [TRef.ofBuf, TRef.toBuf, cast_eq]
  rfl

theorem trip4_dist : after while0Ops0_4 V (Proc.devRef .tc main_v3_2) = V (Proc.devRef .tc main_while0b_v61) := by
  after_reads_simp [readPieces, unaryIndexed_result', binaryIndexed_result', id_eq]
theorem trip4_last : after while0Ops0_4 V (Proc.devRef .tc main_v3_3) = V (Proc.devRef .tc main_while0b_v68) := by
  after_reads_simp [readPieces, unaryIndexed_result', binaryIndexed_result', id_eq]
theorem trip4_table : after while0Ops0_4 V (Proc.devRef .tc main_v3_4) = V (Proc.devRef .tc main_while0b_v69) := by
  after_reads_simp [readPieces, unaryIndexed_result', binaryIndexed_result', id_eq]

end Cert.Value.Reference

end
-- ==== Proof.ReferenceLoop.lean ====
/-
  THE REFERENCE'S LOOP: before trip `k` its buffers hold the distances, the last choice and the table (a row for each trip,
  transposed from `Sampling.lean`'s) of `k` trips of furthest point sampling. Then the reference's result.
-/
module

public import proofs.«01_k».proof.Proof.ReferenceStages
public import proofs.«01_k».proof.Proof.Sampling

@[expose] public section

noncomputable section

namespace Cert.Value.Reference

open Cert.ReferenceIdeal Cert.ReferenceIdeal.Gen Cert.ReferenceIdeal.Run Cert.Value
open Idealize.ShloMosaic Idealize.ShloMosaic.TcCoe Idealize.ShloMosaic.StableHlo Idealize.ShloMosaic.ValueIdx Idealize.SL

/-- A row written at row `k` of the table. -/
theorem row_write (x : Ind S256x8) (l : Ind S8) (start : Fin 2 → ℤ) (k : ℕ) (hk : k < 256) (h0 : start 0 = k) (h1 : start 1 = 0)
    (h : S256x8.Slices (fun _ => 0) S1x8) (i : S256x8.Idx) :
    Host.dynamicUpdateSlice x (broadcastInDim S1x8 ![1] bcast_S8_S1x8_1 l) start h i = if (i 0).val = k then l (ix1 (i 1)) else x i := by
  have e0 : (min (max (start 0) 0) ((256 - 1 : ℕ) : ℤ)).toNat = k := by rw [h0]; omega
  have e1 : (min (max (start 1) 0) ((8 - 8 : ℕ) : ℤ)).toNat = 0 := by rw [h1]; rfl
  have i1 : (i 1).val < 8 := (i 1).isLt
  unfold Host.dynamicUpdateSlice updateSlice
  by_cases hi : (i 0).val = k
  · rw [if_pos hi, dif_pos]
    · refine congrArg l (funext fun a => ?_)
      match a with
      | ⟨0, _⟩ =>
        apply Fin.ext
        show (i 1).val - (min (max (start 1) 0) ((8 - 8 : ℕ) : ℤ)).toNat = (i 1).val
        rw [e1]; rfl
    · intro a
      match a with
      | ⟨0, _⟩ =>
        show (min (max (start 0) 0) ((256 - 1 : ℕ) : ℤ)).toNat ≤ (i 0).val ∧ (i 0).val < (min (max (start 0) 0) ((256 - 1 : ℕ) : ℤ)).toNat + 1
        rw [e0]; omega
      | ⟨1, _⟩ =>
        show (min (max (start 1) 0) ((8 - 8 : ℕ) : ℤ)).toNat ≤ (i 1).val ∧ (i 1).val < (min (max (start 1) 0) ((8 - 8 : ℕ) : ℤ)).toNat + 8
        rw [e1]; omega
  · rw [if_neg hi, dif_neg]
    intro hin
    have := hin 0
    change (min (max (start 0) 0) ((256 - 1 : ℕ) : ℤ)).toNat ≤ (i 0).val ∧ (i 0).val < (min (max (start 0) 0) ((256 - 1 : ℕ) : ℤ)).toNat + 1 at this
    rw [e0] at this
    omega

variable (m : (ℓ : Loc nD τ sig) → Buf (Elt Ideal) ℓ)

/-- The points, as launched. -/
abbrev points (c : Dev nD) : Num S8x16384x3 := m ((c.tc : Thread nD τ).loc main_arg0)

/-- A buffer that no operation of a trip's first four stretches writes keeps its contents through them. -/
theorem keep_trip (V : Val) (b : Ref sig .tc) (h0 : b ∉ while0Ops0_W) (h1 : b ∉ while0Ops0_1_W) (h2 : b ∉ while0Ops0_2_W) :
    after while0Ops0_2 (after while0Ops0_1 (after while0Ops0 V)) (Proc.devRef .tc b) = V (Proc.devRef .tc b) := by
  rw [after_of_writes_sub _ _ while0Ops0_2_writes h2, after_of_writes_sub _ _ while0Ops0_1_writes h1, after_of_writes_sub _ _ while0Ops0_writes h0]

/-- The loop's invariant. -/
structure Inv (V : Val) (p : Num S8x16384x3) (k : ℕ) : Prop where
  points : V (Proc.devRef .tc main_v3_0) = p
  dist : V (Proc.devRef .tc main_v3_2) = (sampled p k).1
  last : V (Proc.devRef .tc main_v3_3) = (sampled p k).2
  table : V (Proc.devRef .tc main_v3_4) = fun i : S256x8.Idx => chosen p k (ix2 (n0 := 8) (n1 := 256) (i 1) (i 0))

/-- It holds before the first trip -/
theorem inv_zero (c : Dev nD) : Inv (atK m 0 c) (points m c) 0 where
  points := (pre_points _).trans rfl
  dist := (pre_dist _).trans rfl
  last := (pre_last _).trans rfl
  table := (pre_table _).trans (by rw [chosen_zero]; rfl)

/-- and a trip keeps it. -/
theorem inv_succ (V : Val) (p : Num S8x16384x3) (k : ℕ) (hk : k < 256) (hc : V (Proc.devRef .tc main_v3_1) = fun _ => Scf.iv 0#32 1#32 k) (hV : Inv V p k) :
    Inv (after while0Ops0_4 (after while0Ops0_3 (after while0Ops0_2 (after while0Ops0_1 (after while0Ops0 V))))) p (k + 1) where
  points := by
    rw [after_of_writes_sub _ _ while0Ops0_4_writes (by decide +kernel), after_of_writes_sub _ _ while0Ops0_3_writes (by decide +kernel),
      keep_trip V _ (by decide +kernel) (by decide +kernel) (by decide +kernel), hV.points]
  dist := by
    rw [trip4_dist, after_of_writes_sub _ _ while0Ops0_3_writes (by decide +kernel), after_of_writes_sub _ _ while0Ops0_2_writes (by decide +kernel),
      after_of_writes_sub _ _ while0Ops0_1_writes (by decide +kernel), trip0_dist, hV.points, hV.dist, hV.last, sampled_dist]
  last := by
    rw [trip4_last, after_of_writes_sub _ _ while0Ops0_3_writes (by decide +kernel), trip012_last, hV.points, hV.dist, hV.last, sampled_last]
  table := by
    rw [trip4_table, trip3_table, keep_trip V main_v3_4 (by decide +kernel) (by decide +kernel) (by decide +kernel),
      keep_trip V main_v3_3 (by decide +kernel) (by decide +kernel) (by decide +kernel),
      keep_trip V main_v3_1 (by decide +kernel) (by decide +kernel) (by decide +kernel), hV.last, hV.table, hc]
    funext i
    refine (row_write _ _ _ k hk (trip_toInt k (by omega)) rfl _ i).trans ?_
    exact (chosen_succ p k (ix2 (n0 := 8) (n1 := 256) (i 1) (i 0))).symm

theorem inv_cond (V : Val) (p : Num S8x16384x3) (k : ℕ) (hV : Inv V p k) : Inv (after condOps V) p k where
  points := (keep_cond main_v3_0 (by decide) V).trans hV.points
  dist := (keep_cond main_v3_2 (by decide) V).trans hV.dist
  last := (keep_cond main_v3_3 (by decide) V).trans hV.last
  table := (keep_cond main_v3_4 (by decide) V).trans hV.table

/-- So it holds before every trip. -/
theorem inv (c : Dev nD) : ∀ k, k ≤ 256 → Inv (atK m k c) (points m c) k
  | 0, _ => inv_zero m c
  | k + 1, h => by
    rw [atK_succ]
    exact inv_succ _ _ k (by omega) ((keep_cond main_v3_1 (by decide) _).trans (atK_ctr m c k)) (inv_cond _ _ k (inv c k (by omega)))

/-- THE REFERENCE'S RESULT: the groups of the table of 256 choices. -/
theorem value (c : Dev nD) : last m c (Proc.devRef .tc main_v50) = grouped (points m c) (chosen (points m c) 256) := by
  rw [last_eq]
  have hI := inv_cond _ _ _ (inv m c 256 le_rfl)
  have ha : after condOps (atK m 256 c) (Proc.devRef .tc main_arg0) = points m c := (keep_cond main_arg0 (by decide) _).trans (atK_arg0 m c 256)
  generalize after condOps (atK m 256 c) = V at hI ha ⊢
  have ht : transpose S8x256 [1, 0] (V (Proc.devRef .tc main_v3_4)) transposes_S256x8_S8x256_1_0 = chosen (points m c) 256 := by
    rw [hI.table]
    funext i
    refine congrArg (chosen (points m c) 256) ?_
    funext a
    match a with
    | ⟨0, _⟩ => rfl
    | ⟨1, _⟩ => rfl
  generalize hV1 : after hostOps0_1 V = V1
  have a1 : V1 (Proc.devRef .tc main_arg0) = points m c := by rw [← hV1, keep_post1, ha]
  have c1 : V1 (Proc.devRef .tc main_v5) = cloud := by rw [← hV1, post1_cloud]
  have x1 : V1 (Proc.devRef .tc main_v11) = centres (points m c) (chosen (points m c) 256) := by rw [← hV1, post1_centres, ht, ha]
  have s1 : V1 (Proc.devRef .tc main_v17) = spread (centres (points m c) (chosen (points m c) 256)) (corner (centres (points m c) (chosen (points m c) 256))) := by
    rw [← hV1, post1_spread, ht, ha]
  generalize hV2 : after hostOps0_2 V1 = V2
  have a2 : V2 (Proc.devRef .tc main_arg0) = points m c := by rw [← hV2, keep_post2, a1]
  have c2 : V2 (Proc.devRef .tc main_v5) = cloud := by rw [← hV2, after_of_writes_sub _ _ hostOps0_2_writes (by decide +kernel), c1]
  have x2 : V2 (Proc.devRef .tc main_v11) = centres (points m c) (chosen (points m c) 256) := by
    rw [← hV2, after_of_writes_sub _ _ hostOps0_2_writes (by decide +kernel), x1]
  have o2 : V2 (Proc.devRef .tc main_v18) = order (spread (centres (points m c) (chosen (points m c) 256)) (corner (centres (points m c) (chosen (points m c) 256)))) := by
    rw [← hV2, post2_order, s1]
  generalize hV3 : after hostOps0_3 V2 = V3
  have a3 : V3 (Proc.devRef .tc main_arg0) = points m c := by rw [← hV3, keep_post3, a2]
  have c3 : V3 (Proc.devRef .tc main_v5) = cloud := by rw [← hV3, after_of_writes_sub _ _ hostOps0_3_writes (by decide +kernel), c2]
  have r3 : V3 (Proc.devRef .tc main_v24) = arranged (points m c) (chosen (points m c) 256) := by rw [← hV3, post3_reorder _ c2, x2, o2]; rfl
  have d3 : V3 (Proc.devRef .tc main_v37) = dist2 (points m c) (arranged (points m c) (chosen (points m c) 256)) := by rw [← hV3, post3_dist2 _ c2, x2, o2, a2]; rfl
  generalize hV4 : after hostOps0_4 V3 = V4
  have a4 : V4 (Proc.devRef .tc main_arg0) = points m c := by rw [← hV4, keep_post4, a3]
  have c4 : V4 (Proc.devRef .tc main_v5) = cloud := by rw [← hV4, after_of_writes_sub _ _ hostOps0_4_writes (by decide +kernel), c3]
  have r4 : V4 (Proc.devRef .tc main_v24) = arranged (points m c) (chosen (points m c) 256) := by rw [← hV4, after_of_writes_sub _ _ hostOps0_4_writes (by decide +kernel), r3]
  have n4 : V4 (Proc.devRef .tc main_v38) = ranked (dist2 (points m c) (arranged (points m c) (chosen (points m c) 256))) := by rw [← hV4, post4_ranked, d3]
  rw [post5_result _ c4, a4, r4, n4]
  rfl

end Cert.Value.Reference

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.Copy
public import proofs.«01_k».proof.Proof.KernelLoop
public import proofs.«01_k».proof.Proof.ReferenceLoop

@[expose] public section

noncomputable section

namespace Cert.Proof

open Idealize.ShloMosaic Idealize.SL.Sem

/-- The kernel as printed runs and leaves its argument. -/
theorem frame_kernel : Cert.quiescent_Kernel := fun m g _ =>
  (θ_run Cert.Kernel.defs _ _).mono (fun _ h => ⟨fun c => (h.1 c).2, h.2⟩) (Cert.Kernel.Run.run m g)

/-- The kernel over the extended reals runs and leaves its argument. -/
theorem frame_kernel_ideal : Cert.quiescent_KernelIdeal := fun m g _ =>
  (θ_run Cert.KernelIdeal.defs _ _).mono (fun _ h => ⟨fun c => (h.1 c).2, h.2⟩) (Cert.KernelIdeal.Run.run m g)

/-- The reference over the extended reals runs and leaves its argument. -/
theorem frame_reference : Cert.quiescent_ReferenceIdeal := fun m g _ => Cert.ReferenceIdeal.Run.frame m g

/-- The kernel and the reference, from equal points, end with equal results. -/
theorem same : Cert.algebraic_KernelIdeal_ReferenceIdeal := fun m g m' g' _ hm =>
  ⟨fun c => Cert.Value.grouped (Cert.Value.Kernel.points m c) (Cert.Value.chosen (Cert.Value.Kernel.points m c) 256),
    (θ_run Cert.KernelIdeal.defs _ _).mono (fun _ h c => ⟨((h.1 c).1.trans (Cert.KernelIdeal.Run.copied_eq _ c)).trans (Cert.Value.Kernel.value m c), (h.1 c).2⟩)
      (Cert.KernelIdeal.Run.run m g),
    (θ_run Cert.ReferenceIdeal.defs _ _).mono (fun _ h c => ⟨(h c).1.trans ((Cert.Value.Reference.value m' c).trans (by
        rw [show Cert.Value.Reference.points m' c = Cert.Value.Kernel.points m c from hm c])), (h c).2⟩)
      (Cert.ReferenceIdeal.Run.run m' g')⟩

theorem claim : Cert.Claim := ⟨Cert.Kernel.Gen.facts, Cert.KernelIdeal.Gen.facts, Cert.ReferenceIdeal.Gen.facts,
  frame_kernel, frame_kernel_ideal, frame_reference, trivial, same⟩

end Cert.Proof

end
